-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x256 : Shape := ⟨2, ![384, 256]⟩
abbrev S256 : Shape := ⟨1, ![256]⟩
abbrev S256x256 : Shape := ⟨2, ![256, 256]⟩
abbrev S_ : Shape := ⟨0, ![]⟩
abbrev S16384x1x3 : Shape := ⟨3, ![16384, 1, 3]⟩
abbrev S1x4096x3 : Shape := ⟨3, ![1, 4096, 3]⟩
abbrev S16384x4096x3 : Shape := ⟨3, ![16384, 4096, 3]⟩
abbrev S16384x4096 : Shape := ⟨2, ![16384, 4096]⟩
abbrev S16384x4 : Shape := ⟨2, ![16384, 4]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S16384x3_S16384x1x3_0_2 : S16384x3.BroadcastsInDim S16384x1x3 (![0, 2] : Fin 2 → Fin S16384x1x3.rank)
  bcast_S4096x3_S1x4096x3_1_2 : S4096x3.BroadcastsInDim S1x4096x3 (![1, 2] : Fin 2 → Fin S1x4096x3.rank)
  bcast_S16384x1x3_S16384x4096x3_0_1_2 : S16384x1x3.BroadcastsInDim S16384x4096x3 (![0, 1, 2] : Fin 3 → Fin S16384x4096x3.rank)
  bcast_S1x4096x3_S16384x4096x3_0_1_2 : S1x4096x3.BroadcastsInDim S16384x4096x3 (![0, 1, 2] : Fin 3 → Fin S16384x4096x3.rank)
  reducesTo_S16384x4096x3_S16384x4096_d2 : S16384x4096x3.ReducesTo [2] S16384x4096
  sliceFits_S16384x4096_S16384x4 : S16384x4096.Slices (fun _ => 0) S16384x4
  slices_S16384x4_S16384x3_0_1 : S16384x4.Slices ![0, 1] S16384x3
  slices_S16384x4_S16384x3_0_0 : S16384x4.Slices ![0, 0] S16384x3
  reducesTo_S16384x3_S_d0_1 : S16384x3.ReducesTo [0, 1] S_

variable [Facts]

def fn_part3 {F : FTy → Type} [FloatOps F] (main_v40 : IVec S_ 1) (main_v49 : FVec F S16384x3 .f32) (main_v50 : FVec F S16384x3 .f32) : IVec S_ 1 :=
  let main_v51 : IVec S16384x3 1 := cmpf .olt main_v49 main_v50
  let main_c_17 : IVec S_ 1 := constantI S_ 1 1#1
  let main_v52 : IVec S_ 1 := (fun x v => Host.reduce IntOp.andi x v reducesTo_S16384x3_S_d0_1 h_S_) main_v51 main_c_17
  let main_v53 : IVec S_ 1 := andi main_v40 main_v52
  main_v53

def fn_part2 {F : FTy → Type} [FloatOps F] (main_arg1 : FVec F S4096x3 .f32) (main_arg4 : FVec F S16384x3 .f32) (main_arg9 : FVec F S256x256 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S256x256 .f32 := broadcastInDim S256x256 ![] bcast_S_S256x256 main_cst_13
  let main_v35 : IVec S256x256 1 := cmpf .ogt main_arg9 main_v34
  let main_cst_14 : FVec F S_ .f32 := constant S_ .f32 0x7F800000#32
  let main_v36 : FVec F S256x256 .f32 := broadcastInDim S256x256 ![] bcast_S_S256x256 main_cst_14
  let main_v37 : IVec S256x256 1 := cmpf .olt main_arg9 main_v36
  let main_v38 : IVec S256x256 1 := andi main_v35 main_v37
  let main_c_15 : IVec S_ 1 := constantI S_ 1 1#1
  let main_v39 : IVec S_ 1 := (fun x v => Host.reduce IntOp.andi x v reducesTo_S256x256_S_d0_1 h_S_) main_v38 main_c_15
  let main_v40 : IVec S_ 1 := andi main_v33 main_v39
  let main_v41 : FVec F S16384x1x3 .f32 := broadcastInDim S16384x1x3 ![0, 2] bcast_S16384x3_S16384x1x3_0_2 main_arg4
  let main_v42 : FVec F S1x4096x3 .f32 := broadcastInDim S1x4096x3 ![1, 2] bcast_S4096x3_S1x4096x3_1_2 main_arg1
  let main_v43 : FVec F S16384x4096x3 .f32 := broadcastInDim S16384x4096x3 ![0, 1, 2] bcast_S16384x1x3_S16384x4096x3_0_1_2 main_v41
  let main_v44 : FVec F S16384x4096x3 .f32 := broadcastInDim S16384x4096x3 ![0, 1, 2] bcast_S1x4096x3_S16384x4096x3_0_1_2 main_v42
  let main_v45 : FVec F S16384x4096x3 .f32 := subf main_v43 main_v44
  let main_v46 : FVec F S16384x4096x3 .f32 := mulf main_v45 main_v45
  let main_cst_16 : FVec F S_ .f32 := constant S_ .f32 0x00000000#32
  let main_v47 : FVec F S16384x4096 .f32 := (fun x v => Host.reduceAdd x v reducesTo_S16384x4096x3_S16384x4096_d2 h_S_) main_v46 main_cst_16
  let main_v48 : FVec F S16384x4096 .f32 := Host.negf main_v47
  let main_values : FVec F S16384x4 .f32 := (fun x => (Host.topK S16384x4 1 (FloatOps.cmpfTotal .gt) x sliceFits_S16384x4096_S16384x4).1) main_v48
  let main_indices : IVec S16384x4 32 := (fun x => (Host.topK S16384x4 1 (FloatOps.cmpfTotal .gt) x sliceFits_S16384x4096_S16384x4).2) main_v48
  let main_v49 : FVec F S16384x3 .f32 := (extractStridedSlice S16384x3 ![0, 1] · slices_S16384x4_S16384x3_0_1) main_values
  let main_v50 : FVec F S16384x3 .f32 := (extractStridedSlice S16384x3 ![0, 0] · slices_S16384x4_S16384x3_0_0) main_values
  fn_part3 (F := F) main_v40 main_v49 main_v50

def fn_part1 {F : FTy → Type} [FloatOps F] (main_arg1 : FVec F S4096x3 .f32) (main_arg4 : FVec F S16384x3 .f32) (main_arg6 : FVec F S384x256 .f32) (main_arg7 : FVec F S256 .f32) (main_arg8 : FVec F S256 .f32) (main_arg9 : FVec F S256x256 .f32) (main_v12 : IVec S_ 1) (main_v14 : IVec S384x256 1) (main_v15 : FVec F S384x256 .f32) : IVec S_ 1 :=
  let main_v16 : IVec S384x256 1 := cmpf .olt main_arg6 main_v15
  let main_v17 : IVec S384x256 1 := andi main_v14 main_v16
  let main_c_6 : IVec S_ 1 := constantI S_ 1 1#1
  let main_v18 : IVec S_ 1 := (fun x v => Host.reduce IntOp.andi x v reducesTo_S384x256_S_d0_1 h_S_) main_v17 main_c_6
  let main_v19 : IVec S_ 1 := andi main_v12 main_v18
  let main_cst_7 : FVec F S_ .f32 := constant S_ .f32 0xFF800000#32
  let main_v20 : FVec F S256 .f32 := broadcastInDim S256 ![] bcast_S_S256 main_cst_7
  let main_v21 : IVec S256 1 := cmpf .ogt main_arg7 main_v20
  let main_cst_8 : FVec F S_ .f32 := constant S_ .f32 0x7F800000#32
  let main_v22 : FVec F S256 .f32 := broadcastInDim S256 ![] bcast_S_S256 main_cst_8
  let main_v23 : IVec S256 1 := cmpf .olt main_arg7 main_v22
  let main_v24 : IVec S256 1 := andi main_v21 main_v23
  let main_c_9 : IVec S_ 1 := constantI S_ 1 1#1
  let main_v25 : IVec S_ 1 := (fun x v => Host.reduce IntOp.andi x v reducesTo_S256_S_d0 h_S_) main_v24 main_c_9
  let main_v26 : IVec S_ 1 := andi main_v19 main_v25
  let main_cst_10 : FVec F S_ .f32 := constant S_ .f32 0xFF800000#32
  let main_v27 : FVec F S256 .f32 := broadcastInDim S256 ![] bcast_S_S256 main_cst_10
  let main_v28 : IVec S256 1 := cmpf .ogt main_arg8 main_v27
  let main_cst_11 : FVec F S_ .f32 := constant S_ .f32 0x7F800000#32
  let main_v29 : FVec F S256 .f32 := broadcastInDim S256 ![] bcast_S_S256 main_cst_11
  let main_v30 : IVec S256 1 := cmpf .olt main_arg8 main_v29
  let main_v31 : IVec S256 1 := andi main_v28 main_v30
  let main_c_12 : IVec S_ 1 := constantI S_ 1 1#1
  let main_v32 : IVec S_ 1 := (fun x v => Host.reduce IntOp.andi x v reducesTo_S256_S_d0 h_S_) main_v31 main_c_12
  fn_part2 (F := F) main_arg1 main_arg4 main_arg9 main_v26 main_v32

def fn {F : FTy → Type} [FloatOps F] (main_arg0 : FVec F S4096x256 .f32) (main_arg1 : FVec F S4096x3 .f32) (main_arg2 : IVec S4096 32) (main_arg3 : FVec F S16384x128 .f32) (main_arg4 : FVec F S16384x3 .f32) (main_arg5 : IVec S16384 32) (main_arg6 : FVec F S384x256 .f32) (main_arg7 : FVec F S256 .f32) (main_arg8 : FVec F S256 .f32) (main_arg9 : FVec F S256x256 .f32) (main_arg10 : FVec F S256 .f32) (main_arg11 : FVec F S256 .f32) : IVec S_ 1 :=
  let main_cst : FVec F S_ .f32 := constant S_ .f32 0xFF800000#32
  let main_v0 : FVec F S4096x256 .f32 := broadcastInDim S4096x256 ![] bcast_S_S4096x256 main_cst
  let main_v1 : IVec S4096x256 1 := cmpf .ogt main_arg0 main_v0
  let main_cst_0 : FVec F S_ .f32 := constant S_ .f32 0x7F800000#32
  let main_v2 : FVec F S4096x256 .f32 := broadcastInDim S4096x256 ![] bcast_S_S4096x256 main_cst_0
  let main_v3 : IVec S4096x256 1 := cmpf .olt main_arg0 main_v2
  let main_v4 : IVec S4096x256 1 := andi main_v1 main_v3
  let main_c : IVec S_ 1 := constantI S_ 1 1#1
  let main_v5 : IVec S_ 1 := (fun x v => Host.reduce IntOp.andi x v reducesTo_S4096x256_S_d0_1 h_S_) main_v4 main_c
  let main_cst_1 : FVec F S_ .f32 := constant S_ .f32 0xFF800000#32
  let main_v6 : FVec F S16384x128 .f32 := broadcastInDim S16384x128 ![] bcast_S_S16384x128 main_cst_1
  let main_v7 : IVec S16384x128 1 := cmpf .ogt main_arg3 main_v6
  let main_cst_2 : FVec F S_ .f32 := constant S_ .f32 0x7F800000#32
  let main_v8 : FVec F S16384x128 .f32 := broadcastInDim S16384x128 ![] bcast_S_S16384x128 main_cst_2
  let main_v9 : IVec S16384x128 1 := cmpf .olt main_arg3 main_v8
  let main_v10 : IVec S16384x128 1 := andi main_v7 main_v9
  let main_c_3 : IVec S_ 1 := constantI S_ 1 1#1
  let main_v11 : IVec S_ 1 := (fun x v => Host.reduce IntOp.andi x v reducesTo_S16384x128_S_d0_1 h_S_) main_v10 main_c_3
  let main_v12 : IVec S_ 1 := andi main_v5 main_v11
  let main_cst_4 : FVec F S_ .f32 := constant S_ .f32 0xFF800000#32
  let main_v13 : FVec F S384x256 .f32 := broadcastInDim S384x256 ![] bcast_S_S384x256 main_cst_4
  let main_v14 : IVec S384x256 1 := cmpf .ogt main_arg6 main_v13
  let main_cst_5 : FVec F S_ .f32 := constant S_ .f32 0x7F800000#32
  let main_v15 : FVec F S384x256 .f32 := broadcastInDim S384x256 ![] bcast_S_S384x256 main_cst_5
  fn_part1 (F := F) main_arg1 main_arg4 main_arg6 main_arg7 main_arg8 main_arg9 main_v12 main_v14 main_v15
-- ==== Kernel.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x256 : Shape := ⟨2, ![384, 256]⟩
abbrev S256 : Shape := ⟨1, ![256]⟩
abbrev S256x256 : Shape := ⟨2, ![256, 256]⟩
abbrev S3x4096 : Shape := ⟨2, ![3, 4096]⟩
abbrev S1x256 : Shape := ⟨2, ![1, 256]⟩
abbrev S16384x256 : Shape := ⟨2, ![16384, 256]⟩
abbrev S8x256 : Shape := ⟨2, ![8, 256]⟩
abbrev S1024x3 : Shape := ⟨2, ![1024, 3]⟩
abbrev S128x256 : Shape := ⟨2, ![128, 256]⟩
abbrev S1024x128 : Shape := ⟨2, ![1024, 128]⟩
abbrev S1024x256 : Shape := ⟨2, ![1024, 256]⟩
abbrev S1024x1 : Shape := ⟨2, ![1024, 1]⟩
abbrev S1x4096 : Shape := ⟨2, ![1, 4096]⟩
abbrev S1024x4096 : Shape := ⟨2, ![1024, 4096]⟩
abbrev S1024 : Shape := ⟨1, ![1024]⟩

abbrev nBuf : Space → Nat
  | .hbm => 23
  | .vmem => 29
  | .smem => 0
  | _ => 0

abbrev bufTy : (tb : Table) → Fin (tcTables nBuf tb) → BufTy
  | .hbm, ⟨0, _⟩ => ⟨S4096x256, .f32⟩
  | .hbm, ⟨1, _⟩ => ⟨S4096x3, .f32⟩
  | .hbm, ⟨2, _⟩ => ⟨S4096, .i32⟩
  | .hbm, ⟨3, _⟩ => ⟨S16384x128, .f32⟩
  | .hbm, ⟨4, _⟩ => ⟨S16384x3, .f32⟩
  | .hbm, ⟨5, _⟩ => ⟨S16384, .i32⟩
  | .hbm, ⟨6, _⟩ => ⟨S384x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S3x4096, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S4096x256, .f32⟩
  | .hbm, ⟨18, _⟩ => ⟨S16384x256, .bf16⟩
  | .hbm, ⟨19, _⟩ => ⟨S8x256, .f32⟩
  | .hbm, ⟨20, _⟩ => ⟨S16384x256, .bf16⟩
  | .hbm, ⟨21, _⟩ => ⟨S8x256, .f32⟩
  | .hbm, ⟨22, _⟩ => ⟨S16384x256, .f32⟩
  | .local _ .vmem, ⟨0, _⟩ => ⟨S4096x256, .f32⟩
  | .local _ .vmem, ⟨1, _⟩ => ⟨S256x256, .f32⟩
  | .local _ .vmem, ⟨2, _⟩ => ⟨S4096x256, .f32⟩
  | .local _ .vmem, ⟨3, _⟩ => ⟨S1024x3, .f32⟩
  | .local _ .vmem, ⟨4, _⟩ => ⟨S1024x3, .f32⟩
  | .local _ .vmem, ⟨5, _⟩ => ⟨S3x4096, .f32⟩
  | .local _ .vmem, ⟨6, _⟩ => ⟨S4096x256, .f32⟩
  | .local _ .vmem, ⟨7, _⟩ => ⟨S128x256, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | .local _ .vmem, ⟨12, _⟩ => ⟨S8x256, .f32⟩
  | .local _ .vmem, ⟨13, _⟩ => ⟨S1024x256, .bf16⟩
  | .local _ .vmem, ⟨14, _⟩ => ⟨S1024x256, .bf16⟩
  | .local _ .vmem, ⟨15, _⟩ => ⟨S8x256, .f32⟩
  | .local _ .vmem, ⟨16, _⟩ => ⟨S1x256, .f32⟩
  | .local _ .vmem, ⟨17, _⟩ => ⟨S1x256, .f32⟩
  | .local _ .vmem, ⟨18, _⟩ => ⟨S256x256, .f32⟩
  | .local _ .vmem, ⟨19, _⟩ => ⟨S1024x256, .bf16⟩
  | .local _ .vmem, ⟨20, _⟩ => ⟨S1024x256, .bf16⟩
  | .local _ .vmem, ⟨21, _⟩ => ⟨S8x256, .f32⟩
  | .local _ .vmem, ⟨22, _⟩ => ⟨S1024x256, .bf16⟩
  | .local _ .vmem, ⟨23, _⟩ => ⟨S1024x256, .bf16⟩
  | .local _ .vmem, ⟨24, _⟩ => ⟨S8x256, .f32⟩
  | .local _ .vmem, ⟨25, _⟩ => ⟨S1x256, .f32⟩
  | .local _ .vmem, ⟨26, _⟩ => ⟨S1x256, .f32⟩
  | .local _ .vmem, ⟨27, _⟩ => ⟨S1024x256, .f32⟩
  | .local _ .vmem, ⟨28, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v7_0 : Ref sig .tc := ⟨.hbm, 20, rfl⟩
abbrev main_v7_1 : Ref sig .tc := ⟨.hbm, 21, rfl⟩
abbrev main_v8 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg4_1 : Ref sig .tc := ⟨.vmem, 28, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem4_1 : DmaSem sig := 28

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S8x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x256 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S8x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S1024x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]
-- ==== ReferenceIdeal.lean ====
abbrev S4096x256 : Shape := ⟨2, ![4096, 256]⟩
abbrev S4096x3 : Shape := ⟨2, ![4096, 3]⟩
abbrev S4096 : Shape := ⟨1, ![4096]⟩
abbrev S16384x128 : Shape := ⟨2, ![16384, 128]⟩
abbrev S16384x3 : Shape := ⟨2, ![16384, 3]⟩
abbrev S16384 : Shape := ⟨1, ![16384]⟩
abbrev S384x256 : Shape := ⟨2, ![384, 256]⟩
abbrev S256 : Shape := ⟨1, ![256]⟩
abbrev S256x256 : Shape := ⟨2, ![256, 256]⟩
abbrev S16384x1x3 : Shape := ⟨3, ![16384, 1, 3]⟩
abbrev S1x4096x3 : Shape := ⟨3, ![1, 4096, 3]⟩
abbrev S16384x4096x3 : Shape := ⟨3, ![16384, 4096, 3]⟩
abbrev S_ : Shape := ⟨0, ![]⟩
abbrev S16384x4096 : Shape := ⟨2, ![16384, 4096]⟩
abbrev S16384x3x1 : Shape := ⟨3, ![16384, 3, 1]⟩
abbrev S1 : Shape := ⟨1, ![1]⟩
abbrev S1x1x1 : Shape := ⟨3, ![1, 1, 1]⟩
abbrev S16384x3x256 : Shape := ⟨3, ![16384, 3, 256]⟩
abbrev S16384x256 : Shape := ⟨2, ![16384, 256]⟩
abbrev S16384x1 : Shape := ⟨2, ![16384, 1]⟩
abbrev S16384x384 : Shape := ⟨2, ![16384, 384]⟩
abbrev S1x256 : Shape := ⟨2, ![1, 256]⟩

abbrev nBuf : Space → Nat
  | .hbm => 132
  | .vmem => 0
  | .smem => 0
  | _ => 0

abbrev hbmTy0_0 (i : Nat) : BufTy := match i % 128 with
  | 0 => ⟨S4096x256, .f32⟩
  | 1 => ⟨S4096x3, .f32⟩
  | 2 => ⟨S4096, .i32⟩
  | 3 => ⟨S16384x128, .f32⟩
  | 4 => ⟨S16384x3, .f32⟩
  | 5 => ⟨S16384, .i32⟩
  | 6 => ⟨S384x256, .f32⟩
  | 7 => ⟨S256, .f32⟩
  | 8 => ⟨S256, .f32⟩
  | 9 => ⟨S256x256, .f32⟩
  | 10 => ⟨S256, .f32⟩
  | 11 => ⟨S256, .f32⟩
  | 12 => ⟨S16384x1x3, .f32⟩
  | 13 => ⟨S1x4096x3, .f32⟩
  | 14 => ⟨S16384x4096x3, .f32⟩
  | 15 => ⟨S16384x4096x3, .f32⟩
  | 16 => ⟨S16384x4096x3, .f32⟩
  | 17 => ⟨S16384x4096x3, .f32⟩
  | 18 => ⟨S_, .f32⟩
  | 19 => ⟨S16384x4096, .f32⟩
  | 20 => ⟨S16384x4096, .f32⟩
  | 21 => ⟨S16384x3, .f32⟩
  | 22 => ⟨S16384x3, .i32⟩
  | 23 => ⟨S16384x3, .f32⟩
  | 24 => ⟨S_, .f32⟩
  | 25 => ⟨S16384x3, .f32⟩
  | 26 => ⟨S16384x3, .f32⟩
  | 27 => ⟨S_, .f32⟩
  | 28 => ⟨S16384x3, .f32⟩
  | 29 => ⟨S16384x3, .f32⟩
  | 30 => ⟨S_, .i32⟩
  | 31 => ⟨S16384x3, .i32⟩
  | 32 => ⟨S16384x3, .i1⟩
  | 33 => ⟨S_, .i32⟩
  | 34 => ⟨S16384x3, .i32⟩
  | 35 => ⟨S16384x3, .i32⟩
  | 36 => ⟨S16384x3, .i32⟩
  | 37 => ⟨S16384x3x1, .i32⟩
  | 38 => ⟨S1, .i32⟩
  | 39 => ⟨S_, .i32⟩
  | 40 => ⟨S16384x3x1, .i32⟩
  | 41 => ⟨S16384x3x1, .i1⟩
  | 42 => ⟨S1x1x1, .i32⟩
  | 43 => ⟨S16384x3x1, .i32⟩
  | 44 => ⟨S16384x3x1, .i1⟩
  | 45 => ⟨S16384x3x1, .i1⟩
  | 46 => ⟨S_, .i1⟩
  | 47 => ⟨S16384x3, .i1⟩
  | 48 => ⟨S16384x3x256, .f32⟩
  | 49 => ⟨S16384x3x256, .i1⟩
  | 50 => ⟨S_, .f32⟩
  | 51 => ⟨S16384x3x256, .f32⟩
  | 52 => ⟨S16384x3x256, .f32⟩
  | 53 => ⟨S16384x3x1, .f32⟩
  | 54 => ⟨S16384x3x256, .f32⟩
  | 55 => ⟨S16384x3x256, .f32⟩
  | 56 => ⟨S_, .f32⟩
  | 57 => ⟨S16384x256, .f32⟩
  | 58 => ⟨S_, .f32⟩
  | 59 => ⟨S16384, .f32⟩
  | 60 => ⟨S16384x1, .f32⟩
  | 61 => ⟨S16384x256, .f32⟩
  | 62 => ⟨S16384x256, .f32⟩
  | 63 => ⟨S16384x384, .f32⟩
  | 64 => ⟨S16384x256, .f32⟩
  | 65 => ⟨S_, .f32⟩
  | 66 => ⟨S256, .f32⟩
  | 67 => ⟨S_, .f32⟩
  | 68 => ⟨S256, .f32⟩
  | 69 => ⟨S256, .f32⟩
  | 70 => ⟨S1x256, .f32⟩
  | 71 => ⟨S16384x256, .f32⟩
  | 72 => ⟨S16384x256, .f32⟩
  | 73 => ⟨S16384x256, .f32⟩
  | 74 => ⟨S_, .f32⟩
  | 75 => ⟨S256, .f32⟩
  | 76 => ⟨S_, .f32⟩
  | 77 => ⟨S256, .f32⟩
  | 78 => ⟨S256, .f32⟩
  | 79 => ⟨S1x256, .f32⟩
  | 80 => ⟨S16384x256, .f32⟩
  | 81 => ⟨S16384x256, .f32⟩
  | 82 => ⟨S_, .f32⟩
  | 83 => ⟨S256, .f32⟩
  | 84 => ⟨S256, .f32⟩
  | 85 => ⟨S256, .f32⟩
  | 86 => ⟨S1x256, .f32⟩
  | 87 => ⟨S16384x256, .f32⟩
  | 88 => ⟨S16384x256, .f32⟩
  | 89 => ⟨S1x256, .f32⟩
  | 90 => ⟨S16384x256, .f32⟩
  | 91 => ⟨S16384x256, .f32⟩
  | 92 => ⟨S1x256, .f32⟩
  | 93 => ⟨S16384x256, .f32⟩
  | 94 => ⟨S16384x256, .f32⟩
  | 95 => ⟨S_, .f32⟩
  | 96 => ⟨S16384x256, .f32⟩
  | 97 => ⟨S16384x256, .f32⟩
  | 98 => ⟨S16384x256, .f32⟩
  | 99 => ⟨S_, .f32⟩
  | 100 => ⟨S256, .f32⟩
  | 101 => ⟨S_, .f32⟩
  | 102 => ⟨S256, .f32⟩
  | 103 => ⟨S256, .f32⟩
  | 104 => ⟨S1x256, .f32⟩
  | 105 => ⟨S16384x256, .f32⟩
  | 106 => ⟨S16384x256, .f32⟩
  | 107 => ⟨S16384x256, .f32⟩
  | 108 => ⟨S_, .f32⟩
  | 109 => ⟨S256, .f32⟩
  | 110 => ⟨S_, .f32⟩
  | 111 => ⟨S256, .f32⟩
  | 112 => ⟨S256, .f32⟩
  | 113 => ⟨S1x256, .f32⟩
  | 114 => ⟨S16384x256, .f32⟩
  | 115 => ⟨S16384x256, .f32⟩
  | 116 => ⟨S_, .f32⟩
  | 117 => ⟨S256, .f32⟩
  | 118 => ⟨S256, .f32⟩
  | 119 => ⟨S256, .f32⟩
  | 120 => ⟨S1x256, .f32⟩
  | 121 => ⟨S16384x256, .f32⟩
  | 122 => ⟨S16384x256, .f32⟩
  | 123 => ⟨S1x256, .f32⟩
  | 124 => ⟨S16384x256, .f32⟩
  | 125 => ⟨S16384x256, .f32⟩
  | 126 => ⟨S1x256, .f32⟩
  | 127 => ⟨S16384x256, .f32⟩
  | _ => ⟨S4096x256, .f32⟩

abbrev hbmTy0_1 (i : Nat) : BufTy := match i % 128 with
  | 0 => ⟨S16384x256, .f32⟩
  | 1 => ⟨S_, .f32⟩
  | 2 => ⟨S16384x256, .f32⟩
  | 3 => ⟨S16384x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_values : Ref sig .tc := ⟨.hbm, 21, rfl⟩
abbrev main_indices : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_call0_cst : Ref sig .tc := ⟨.hbm, 50, rfl⟩
abbrev main_call0_v15 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_cst_2 : Ref sig .tc := ⟨.hbm, 56, rfl⟩
abbrev main_v17 : Ref sig .tc := ⟨.hbm, 57, rfl⟩
abbrev main_cst_3 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_4 : Ref sig .tc := ⟨.hbm, 65, rfl⟩
abbrev main_v24 : Ref sig .tc := ⟨.hbm, 66, rfl⟩
abbrev main_cst_5 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_cst_6 : Ref sig .tc := ⟨.hbm, 74, rfl⟩
abbrev main_v31 : Ref sig .tc := ⟨.hbm, 75, rfl⟩
abbrev main_cst_7 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_cst_8 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_call1_cst : Ref sig .tc := ⟨.hbm, 95, rfl⟩
abbrev main_call1_v0 : Ref sig .tc := ⟨.hbm, 96, rfl⟩
abbrev main_v49 : Ref sig .tc := ⟨.hbm, 97, rfl⟩
abbrev main_v50 : Ref sig .tc := ⟨.hbm, 98, rfl⟩
abbrev main_cst_9 : Ref sig .tc := ⟨.hbm, 99, rfl⟩
abbrev main_v51 : Ref sig .tc := ⟨.hbm, 100, rfl⟩
abbrev main_cst_10 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_cst_12 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_13 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_call2_cst : Ref sig .tc := ⟨.hbm, 129, rfl⟩
abbrev main_call2_v0 : Ref sig .tc := ⟨.hbm, 130, rfl⟩
abbrev main_v76 : Ref sig .tc := ⟨.hbm, 131, rfl⟩

abbrev nD : Nat := 1
abbrev τ : Topo := Topo.v7x

variable {F : FTy → Type} [FloatOps F]
-- ==== Proof.Region0.lean ====
/- The first launch: what its body leaves, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The first launch, from the contents `V` -/

/-! ## The windows' blocks -/

/-- Window `w`'s block at point `t`, read off its array in the contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 1 takes a 256-row block of the 384-row array `S384x256`, so its blocks do not tile the array; the one
    block the grid reaches is not cut. A value for the part of the buffer that a cut block would leave unfilled. -/
def dflt0_1 : (cfg0.win 1).block.Idx → Elt F (cfg0.win 1).elt := fun _ => Classical.choice inferInstance
/-- What window 1's staging buffer holds when the body runs at `t`: its block of the array, over `dflt0_1`. -/
def X0_1 (c : Dev nD) (t : Fin cfg0.N) : (cfg0.win 1).block.Idx → Elt F (cfg0.win 1).elt :=
  (cfg0.win 1).fill (cfg0.grid.coords t) dflt0_1 (iblk0 V c 1 t)
/-- At every point the cut's extent is the block's. -/
theorem xsize0_1 : ∀ t : Fin cfg0.N, ∀ a, (cfg0.win 1).xsize (cfg0.grid.coords t) a = (cfg0.win 1).size a := by decide +kernel
/-- Every index of window 1's block is moved. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of window 1's block does not depend on what the buffer held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]

/-! ## The body's accesses -/

/-- A whole block, as the body reads or writes it. -/
abbrev r0_0 : Rect S4096x256 := Rect.unit (s := S4096x256) ![0, 0] S4096x256.size inb_S4096x256_S4096x256_0_0
/-- A whole block, as the body reads or writes it. -/
abbrev r0_1 : Rect S256x256 := Rect.unit (s := S256x256) ![0, 0] S256x256.size inb_S256x256_S256x256_0_0

/-! ## What the body leaves in each output window's buffer -/

/-- What the body leaves in the output's buffer, from the inputs' blocks: one store. -/
def out0_2 (x0 : Vec F S4096x256 .f32) (x1 : Vec F S256x256 .f32) : Vec F S4096x256 .f32 :=
  View.canon [⟨r0_0, k0_pay1 (View.ld x0 r0_0) (View.ld x1 r0_1)⟩]

/-- The store covers the output's block. -/
theorem cover0_2 (p0 : Vec F S4096x256 .f32) (y : S4096x256.Idx) :
    ∃ pc ∈ ([⟨r0_0, p0⟩] : List (View.Piece (Elt F) S4096x256 .f32)), y ∈ pc.1.set :=
  View.cover_of_tiled [⟨r0_0, p0⟩] S4096x256.size (by rfl) y

/-! ## The body's triple -/

set_option maxHeartbeats 1000000 in
/-- The body, on buffers that hold the inputs' blocks, ends with those as they were and the output's block
    stored. -/
theorem sound_kernel0 (c : Dev nD) (E : Set ℕ) (i : grid0.Coords) (arg1 : Memref sig .tc .vmem S4096x256 .f32) (harg1 : arg1.IsWhole) (arg2 : Memref sig .tc .vmem S256x256 .f32) (harg2 : arg2.IsWhole) (arg3 : Memref sig .tc .vmem S4096x256 .f32) (harg3 : arg3.IsWhole)
    (x0 : Vec F S4096x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__y_body i arg1 harg1 arg2 harg2 arg3 harg3) K := by
  simp only [cc0__y_body_eq_skeleton]; unfold cc0__y_body_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first launch: each array as found, what the body leaves in each window's buffer,
    nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => X0_1 V c t
    | ⟨2, _⟩ => out0_2 (iblk0 V c 0 t) (X0_1 V c t)
  Φ _ := Pipeline.ΦA spec0 c
  q _ := fullShare
  owed _ := 0

/-- The proof data's arrays are those of `V`. -/
theorem A_eq0 (c : Dev nD) (w : Fin cfg0.W) : (dat0 V c).A w = V c (Pipeline.arrRef spec0 w) := by
  dsimp only [dat0]

/-- The body leaves input window 0's block as it was. -/
theorem after0_0 (c : Dev nD) (t : Fin cfg0.N) : (dat0 V c).after 0 t = iblk0 V c 0 t := by dsimp only [dat0]
/-- The body leaves input window 1's block as it was. -/
theorem after0_1 (c : Dev nD) (t : Fin cfg0.N) : (dat0 V c).after 1 t = X0_1 V c t := by dsimp only [dat0]
/-- What the body leaves in output window 2. -/
theorem after0_2 (c : Dev nD) (t : Fin cfg0.N) : (dat0 V c).after 2 t = out0_2 (iblk0 V c 0 t) (X0_1 V c t) := by dsimp only [dat0]

/-- Input window 0 holds its block when the body runs, newly copied in or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Input window 1 holds its block when the body runs, newly copied in or not. -/
theorem before0_1 (c : Dev nD) (t : Fin cfg0.N) (d) : (dat0 V c).before 1 t d = X0_1 V c t :=
  ((dat0 V c).before_in_eq_fetched 1 rfl (fun _ => rfl)
      (fun t t' h => funext fun a => congrArg (fun n => Pipeline.Clip.of n ((cfg0.win 1).size a) (S384x256.size a)) (congrFun h a))
      (fun t => by rw [after0_1]; unfold X0_1; rw [Pipeline.Window.cut_fill]; unfold Dat.blockOf iblk0; rw [A_eq0]; try rfl) t d).trans
    (by unfold Dat.fetched X0_1; rw [fill0_1 t d dflt0_1]; unfold Dat.blockOf iblk0; rw [A_eq0]; try rfl)

/-! ## The body obligation, at a generic point -/

/-- What the body starts from at a point: every window's buffer, each at what it holds there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What the body ends with at a point: every window's buffer, each at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at a point of the grid: it starts from the blocks and ends with what the proof data state. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (X0_1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body the launch runs is this one. -/
theorem defs₀_row0 (t : Fin cfg0.N) :
    defs₀ (F := F) .tc cfg0.body (cfg0.bodyArgs t (cfg0.slots t)) = bodyAt0 t := by
  unfold defs₀; rw [Defs.onTc_tc]

/-- The body meets its obligation at every point of the grid. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.Region1.lean ====
/- The second launch: what its body leaves, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second launch, from the contents `V` -/

/-! ## The windows' blocks -/

/-- Window `w`'s block at point `t`, read off its array in the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's branch -/

/-- The condition of the body's branch, from the grid coordinates. -/
abbrev cond1_0 (i : grid1.Coords) : Prop := (Scalar.cmpi .ne (Scalar.extui (Scalar.cmpi .eq (BitVec.ofNat 32 (i 0).val) 0#32)) 0#32) = 1#1
/-- The branch is taken at the first point only. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-! ## The body on any buffers, in its two cases -/

/-- A buffer of output window 5, to state its contents through. -/
abbrev VO1_5 : View sig .tc .vmem S1024x256 .bf16 := (Memref.whole cc1_stg5_0 : Memref sig .tc .vmem S1024x256 .bf16).view
/-- A buffer of output window 6, to state its contents through. -/
abbrev VO1_6 : View sig .tc .vmem S8x256 .f32 := (Memref.whole cc1_stg6_0 : Memref sig .tc .vmem S8x256 .f32).view
/-- Window 0's buffer at point `t`. -/
abbrev ms1_0 (t : Fin cfg1.N) : Memref sig .tc .vmem S1024x3 .f32 := win1_0.stage (cfg1.slots t 0)
/-- Window 0's buffer is whole. -/
abbrev hs1_0 (t : Fin cfg1.N) : (ms1_0 t).IsWhole := hstage1_0 ((cfg1.slots t 0).cast nbuf1_0)
/-- Window 1's buffer at point `t`. -/
abbrev ms1_1 (t : Fin cfg1.N) : Memref sig .tc .vmem S3x4096 .f32 := win1_1.stage (cfg1.slots t 1)
/-- Window 1's buffer is whole. -/
abbrev hs1_1 (t : Fin cfg1.N) : (ms1_1 t).IsWhole := hstage1_1 ((cfg1.slots t 1).cast nbuf1_1)
/-- Window 2's buffer at point `t`. -/
abbrev ms1_2 (t : Fin cfg1.N) : Memref sig .tc .vmem S4096x256 .f32 := win1_2.stage (cfg1.slots t 2)
/-- Window 2's buffer is whole. -/
abbrev hs1_2 (t : Fin cfg1.N) : (ms1_2 t).IsWhole := hstage1_2 ((cfg1.slots t 2).cast nbuf1_2)
/-- Window 3's buffer at point `t`. -/
abbrev ms1_3 (t : Fin cfg1.N) : Memref sig .tc .vmem S128x256 .f32 := win1_3.stage (cfg1.slots t 3)
/-- Window 3's buffer is whole. -/
abbrev hs1_3 (t : Fin cfg1.N) : (ms1_3 t).IsWhole := hstage1_3 ((cfg1.slots t 3).cast nbuf1_3)
/-- Window 4's buffer at point `t`. -/
abbrev ms1_4 (t : Fin cfg1.N) : Memref sig .tc .vmem S1024x128 .f32 := win1_4.stage (cfg1.slots t 4)
/-- Window 4's buffer is whole. -/
abbrev hs1_4 (t : Fin cfg1.N) : (ms1_4 t).IsWhole := hstage1_4 ((cfg1.slots t 4).cast nbuf1_4)
/-- Window 5's buffer at point `t`. -/
abbrev ms1_5 (t : Fin cfg1.N) : Memref sig .tc .vmem S1024x256 .bf16 := win1_5.stage (cfg1.slots t 5)
/-- Window 5's buffer is whole. -/
abbrev hs1_5 (t : Fin cfg1.N) : (ms1_5 t).IsWhole := hstage1_5 ((cfg1.slots t 5).cast nbuf1_5)
/-- Window 6's buffer at point `t`. -/
abbrev ms1_6 (t : Fin cfg1.N) : Memref sig .tc .vmem S8x256 .f32 := win1_6.stage (cfg1.slots t 6)
/-- Window 6's buffer is whole. -/
abbrev hs1_6 (t : Fin cfg1.N) : (ms1_6 t).IsWhole := hstage1_6 ((cfg1.slots t 6).cast nbuf1_6)

set_option maxHeartbeats 1000000 in
/-- The body at the first point: the pieces it stores in each output, and the proof that it runs to the end,
    keeps the inputs' buffers and writes those pieces. -/
noncomputable def kernelRun1_A (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : cond1_0 i)
    (x0 : Vec F S1024x3 .f32) (x1 : Vec F S3x4096 .f32) (x2 : Vec F S4096x256 .f32) (x3 : Vec F S128x256 .f32) (x4 : Vec F S1024x128 .f32) :
    Σ' (L5 : List (View.Piece (Elt F) S1024x256 .bf16)), { L6 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc1__knn_body i arg1 harg1 arg2 harg2 arg3 harg3 arg4 harg4 arg5 harg5 arg6 harg6 arg7 harg7) K } := by
  refine ⟨?_, ?_, fun E K => ?run⟩
  case run =>
    simp only [cc1__knn_body_eq_skeleton]; unfold cc1__knn_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- At the first point the stores cover output 5's block. -/
theorem cover1_A_5 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : cond1_0 i)
    (x0 : Vec F S1024x3 .f32) (x1 : Vec F S3x4096 .f32) (x2 : Vec F S4096x256 .f32) (x3 : Vec F S128x256 .f32) (x4 : Vec F S1024x128 .f32) (y : S1024x256.Idx) :
    ∃ pc ∈ (kernelRun1_A c i arg1 harg1 arg2 harg2 arg3 harg3 arg4 harg4 arg5 harg5 arg6 harg6 arg7 harg7 hc0 x0 x1 x2 x3 x4).1, y ∈ pc.1.set :=
  View.cover_of_tiledL (kernelRun1_A c i arg1 harg1 arg2 harg2 arg3 harg3 arg4 harg4 arg5 harg5 arg6 harg6 arg7 harg7 hc0 x0 x1 x2 x3 x4).1 S1024x256.size (by sl_kernel_rfl) y

/-- What the first point leaves in output 5's buffer. -/
def out1_A_5 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : cond1_0 i)
    (x0 : Vec F S1024x3 .f32) (x1 : Vec F S3x4096 .f32) (x2 : Vec F S4096x256 .f32) (x3 : Vec F S128x256 .f32) (x4 : Vec F S1024x128 .f32) : Vec F S1024x256 .bf16 :=
  VO1_5.read (Elt F) (VO1_5.writes (Elt F) VO1_5.junk (kernelRun1_A c i arg1 harg1 arg2 harg2 arg3 harg3 arg4 harg4 arg5 harg5 arg6 harg6 arg7 harg7 hc0 x0 x1 x2 x3 x4).1)

/-- At the first point the stores cover output 6's block. -/
theorem cover1_A_6 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : cond1_0 i)
    (x0 : Vec F S1024x3 .f32) (x1 : Vec F S3x4096 .f32) (x2 : Vec F S4096x256 .f32) (x3 : Vec F S128x256 .f32) (x4 : Vec F S1024x128 .f32) (y : S8x256.Idx) :
    ∃ pc ∈ (kernelRun1_A c i arg1 harg1 arg2 harg2 arg3 harg3 arg4 harg4 arg5 harg5 arg6 harg6 arg7 harg7 hc0 x0 x1 x2 x3 x4).2.1, y ∈ pc.1.set :=
  View.cover_of_tiledBy (kernelRun1_A c i arg1 harg1 arg2 harg2 arg3 harg3 arg4 harg4 arg5 harg5 arg6 harg6 arg7 harg7 hc0 x0 x1 x2 x3 x4).2.1 ![1, 256] (by sl_kernel_rfl) y

/-- What the first point leaves in output 6's buffer. -/
def out1_A_6 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : cond1_0 i)
    (x0 : Vec F S1024x3 .f32) (x1 : Vec F S3x4096 .f32) (x2 : Vec F S4096x256 .f32) (x3 : Vec F S128x256 .f32) (x4 : Vec F S1024x128 .f32) : Vec F S8x256 .f32 :=
  VO1_6.read (Elt F) (VO1_6.writes (Elt F) VO1_6.junk (kernelRun1_A c i arg1 harg1 arg2 harg2 arg3 harg3 arg4 harg4 arg5 harg5 arg6 harg6 arg7 harg7 hc0 x0 x1 x2 x3 x4).2.1)

set_option maxHeartbeats 1000000 in
/-- The body at a later point, on the sums `xo6` so far: the pieces it stores in each output, and the proof
    that it runs to the end, keeps the inputs' buffers and writes those pieces. -/
noncomputable def kernelRun1_B (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : ¬cond1_0 i)
    (x0 : Vec F S1024x3 .f32) (x1 : Vec F S3x4096 .f32) (x2 : Vec F S4096x256 .f32) (x3 : Vec F S128x256 .f32) (x4 : Vec F S1024x128 .f32) (xo6 : Vec F S8x256 .f32) :
    Σ' (L5 : List (View.Piece (Elt F) S1024x256 .bf16)), { L6 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xo6) L6)) -∗ K ⟨⟩))
          ⊢ wp frame (wpE (defs₀ (F := F)) Variants.none c none) E (cc1__knn_body i arg1 harg1 arg2 harg2 arg3 harg3 arg4 harg4 arg5 harg5 arg6 harg6 arg7 harg7) K } := by
  refine ⟨?_, ?_, fun E K => ?run⟩
  case run =>
    simp only [cc1__knn_body_eq_skeleton]; unfold cc1__knn_body_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexact H6

/-- At a later point the stores cover output 5's block. -/
theorem cover1_B_5 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : ¬cond1_0 i)
    (x0 : Vec F S1024x3 .f32) (x1 : Vec F S3x4096 .f32) (x2 : Vec F S4096x256 .f32) (x3 : Vec F S128x256 .f32) (x4 : Vec F S1024x128 .f32) (xo6 : Vec F S8x256 .f32) (y : S1024x256.Idx) :
    ∃ pc ∈ (kernelRun1_B c i arg1 harg1 arg2 harg2 arg3 harg3 arg4 harg4 arg5 harg5 arg6 harg6 arg7 harg7 hc0 x0 x1 x2 x3 x4 xo6).1, y ∈ pc.1.set :=
  View.cover_of_tiledL (kernelRun1_B c i arg1 harg1 arg2 harg2 arg3 harg3 arg4 harg4 arg5 harg5 arg6 harg6 arg7 harg7 hc0 x0 x1 x2 x3 x4 xo6).1 S1024x256.size (by sl_kernel_rfl) y

/-- What a later point leaves in output 5's buffer. -/
def out1_B_5 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : ¬cond1_0 i)
    (x0 : Vec F S1024x3 .f32) (x1 : Vec F S3x4096 .f32) (x2 : Vec F S4096x256 .f32) (x3 : Vec F S128x256 .f32) (x4 : Vec F S1024x128 .f32) (xo6 : Vec F S8x256 .f32) : Vec F S1024x256 .bf16 :=
  VO1_5.read (Elt F) (VO1_5.writes (Elt F) VO1_5.junk (kernelRun1_B c i arg1 harg1 arg2 harg2 arg3 harg3 arg4 harg4 arg5 harg5 arg6 harg6 arg7 harg7 hc0 x0 x1 x2 x3 x4 xo6).1)

/-- What a later point leaves in output 6's buffer: its stores, over what the point before left there. -/
def out1_B_6 (c : Dev nD) (i : grid1.Coords) (arg1 : Memref sig .tc .vmem S1024x3 .f32) (harg1 : arg1.IsWhole) (arg2 : Memref sig .tc .vmem S3x4096 .f32) (harg2 : arg2.IsWhole) (arg3 : Memref sig .tc .vmem S4096x256 .f32) (harg3 : arg3.IsWhole) (arg4 : Memref sig .tc .vmem S128x256 .f32) (harg4 : arg4.IsWhole) (arg5 : Memref sig .tc .vmem S1024x128 .f32) (harg5 : arg5.IsWhole) (arg6 : Memref sig .tc .vmem S1024x256 .bf16) (harg6 : arg6.IsWhole) (arg7 : Memref sig .tc .vmem S8x256 .f32) (harg7 : arg7.IsWhole) (hc0 : ¬cond1_0 i)
    (x0 : Vec F S1024x3 .f32) (x1 : Vec F S3x4096 .f32) (x2 : Vec F S4096x256 .f32) (x3 : Vec F S128x256 .f32) (x4 : Vec F S1024x128 .f32) (xo6 : Vec F S8x256 .f32) : Vec F S8x256 .f32 :=
  arg7.view.read (Elt F) (arg7.view.writes (Elt F) (harg7.unread xo6) (kernelRun1_B c i arg1 harg1 arg2 harg2 arg3 harg3 arg4 harg4 arg5 harg5 arg6 harg6 arg7 harg7 hc0 x0 x1 x2 x3 x4 xo6).2.1)

/-! ## What the outputs hold after each point -/

/-- What the outputs' buffers hold after the body at point `n`: the first point starts the sums, each later
    one adds to those of the point before. -/
def outsAt1 (c : Dev nD) : (n : ℕ) → n < cfg1.N → Vec F S1024x256 .bf16 × Vec F S8x256 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩), out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if h0 : (n + 1) % 16 = 0 then
      (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      (out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)

/-- At the first point the outputs hold what that case leaves. -/
theorem outsAt1_A (c : Dev nD) (t : Fin cfg1.N) (h0 : t.val % 16 = 0) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t), out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t) (iblk1 V c 4 t)) := by
  obtain ⟨n, hn⟩ := t
  cases n with
  | zero => exact rfl
  | succ n => exact (dif_pos h0).trans rfl

/-- At a later point the outputs hold what that case leaves over the point before. -/
theorem outsAt1_B (c : Dev nD) (t : Fin cfg1.N) (h0 : ¬t.val % 16 = 0) :
    outsAt1 V c t.val t.isLt = (out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2, out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the second launch: each array as found, what the body leaves in each window's buffer,
    nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
    | ⟨6, _⟩ => (outsAt1 V c t.val t.isLt).2
  Φ _ := Pipeline.ΦA spec1 c
  q _ := fullShare
  owed _ := 0

/-- The proof data's arrays are those of `V`. -/
theorem A_eq1 (c : Dev nD) (w : Fin cfg1.W) : (dat1 V c).A w = V c (Pipeline.arrRef spec1 w) := by
  dsimp only [dat1]

/-- The body leaves input window 0's block as it was. -/
theorem after1_0 (c : Dev nD) (t : Fin cfg1.N) : (dat1 V c).after 0 t = iblk1 V c 0 t := by dsimp only [dat1]
/-- The body leaves input window 1's block as it was. -/
theorem after1_1 (c : Dev nD) (t : Fin cfg1.N) : (dat1 V c).after 1 t = iblk1 V c 1 t := by dsimp only [dat1]
/-- The body leaves input window 2's block as it was. -/
theorem after1_2 (c : Dev nD) (t : Fin cfg1.N) : (dat1 V c).after 2 t = iblk1 V c 2 t := by dsimp only [dat1]
/-- The body leaves input window 3's block as it was. -/
theorem after1_3 (c : Dev nD) (t : Fin cfg1.N) : (dat1 V c).after 3 t = iblk1 V c 3 t := by dsimp only [dat1]
/-- The body leaves input window 4's block as it was. -/
theorem after1_4 (c : Dev nD) (t : Fin cfg1.N) : (dat1 V c).after 4 t = iblk1 V c 4 t := by dsimp only [dat1]
/-- What the body leaves in output window 5. -/
theorem after1_5 (c : Dev nD) (t : Fin cfg1.N) : (dat1 V c).after 5 t = (outsAt1 V c t.val t.isLt).1 := by dsimp only [dat1]
/-- What the body leaves in output window 6. -/
theorem after1_6 (c : Dev nD) (t : Fin cfg1.N) : (dat1 V c).after 6 t = (outsAt1 V c t.val t.isLt).2 := by dsimp only [dat1]

/-- Input window 0 holds its block when the body runs, newly copied in or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Input window 1 holds its block when the body runs, newly copied in or not. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Input window 2 holds its block when the body runs, newly copied in or not. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Input window 3 holds its block when the body runs, newly copied in or not. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Input window 4 holds its block when the body runs, newly copied in or not. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- At a later point output 6's buffer still holds what the point before left: nothing was written back
    between. -/
theorem before1_6_B (c : Dev nD) (t : Fin cfg1.N) (h0 : ¬t.val % 16 = 0) (d) :
    (dat1 V c).before 6 t d = (outsAt1 V c (t.val - 1) (Nat.lt_of_le_of_lt (Nat.sub_le _ _) t.isLt)).2 := by
  have hN : t.val < 16 := lt_of_lt_of_eq t.isLt (show cfg1.N = 16 from N_1)
  rw [Dat.before_out_kept _ 6 rfl t (by omega) (Bool.eq_false_iff.mpr fun h => by have := (flush1_6 _).mp h; dsimp only at this; omega)
    (fun _ => rfl) (fun _ _ => rfl)]
  dsimp only [dat1]

/-! ## The body obligation, at a generic point -/

/-- What the body starts from at a point: every window's buffer, each at what it holds there. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- What the body ends with at a point: every window's buffer, each at what the body leaves. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 800000 in
/-- The body at a point of the grid, by cases on whether the point is the first. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  have hN : t.val < 16 := lt_of_lt_of_eq t.isLt (show cfg1.N = 16 from N_1)
  by_cases h0 : t.val % 16 = 0
  · rw [outsAt1_A V c t h0]
    unfold out1_A_5 out1_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ ((hcond1_0 t).mpr h0) (iblk1 V c 0 t) (iblk1 V c 1 t) (iblk1 V c 2 t) (iblk1 V c 3 t) (iblk1 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_A_5 c _ _ _ _ _ _ _ _ _ _ _ _ _ _ _ _ _ _ _ _ _)
    unfold owns; iexists _; isplitr
    swap; · iexact H6
    ipureintro; exact View.read_writes_of_cover _ _ _ _ _ (cover1_A_6 c _ _ _ _ _ _ _ _ _ _ _ _ _ _ _ _ _ _ _ _ _)
  · rw [outsAt1_B V c t h0]
    simp only [before1_6_B V c t h0]
    unfold out1_B_5 out1_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun1_B c (grid1.coords t) _ _ _ _ _ _ _ _ _ _ _ _ _ _ (fun h => h0 ((hcond1_0 t).mp h)) (iblk1 V c 0 t) (iblk1 V c 1 t) (iblk1 V c 2 t) (iblk1 V c 3 t) (iblk1 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover1_B_5 c _ _ _ _ _ _ _ _ _ _ _ _ _ _ _ _ _ _ _ _ _ _)
    unfold owns; iexists _; isplitr
    swap; · iexact H6
    ipureintro; rfl

/-- The body the launch runs is this one. -/
theorem defs₀_row1 (t : Fin cfg1.N) :
    defs₀ (F := F) .tc cfg1.body (cfg1.bodyArgs t (cfg1.slots t)) = bodyAt1 t := by
  unfold defs₀; rw [Defs.onTc_tc]

/-- The body meets its obligation at every point of the grid. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Run

end
-- ==== Proof.Region2.lean ====
/- The third launch: what its body leaves, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third launch, from the contents `V` -/

/-! ## The windows' blocks -/

/-- Window `w`'s block at point `t`, read off its array in the contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's branch -/

/-- The condition of the body's branch, from the grid coordinates. -/
abbrev cond2_0 (i : grid2.Coords) : Prop := (Scalar.cmpi .ne (Scalar.extui (Scalar.cmpi .eq (BitVec.ofNat 32 (i 0).val) 0#32)) 0#32) = 1#1
/-- The branch is taken at the first point only. -/
theorem hcond2_0 : ∀ t : Fin cfg2.N, cond2_0 (grid2.coords t) ↔ t.val % 16 = 0 :=
  (fun t => by
    have ht : t.val < 16 := Nat.lt_of_lt_of_eq t.isLt N_2
    have e0 : (grid2.coords t 0).val = t.val / 1 % 16 := Pipeline.Grid.coords_val t 0 (by decide) rfl
    simp only [cond2_0, e0]
    word_cmp
   : ∀ t : Fin grid2.N, cond2_0 (grid2.coords t) ↔ t.val % 16 = 0)

/-! ## The body on any buffers, in its two cases -/

/-- A buffer of output window 5, to state its contents through. -/
abbrev VO2_5 : View sig .tc .vmem S1024x256 .bf16 := (Memref.whole cc2_stg5_0 : Memref sig .tc .vmem S1024x256 .bf16).view
/-- A buffer of output window 6, to state its contents through. -/
abbrev VO2_6 : View sig .tc .vmem S8x256 .f32 := (Memref.whole cc2_stg6_0 : Memref sig .tc .vmem S8x256 .f32).view
/-- Window 0's buffer at point `t`. -/
abbrev ms2_0 (t : Fin cfg2.N) : Memref sig .tc .vmem S1024x256 .bf16 := win2_0.stage (cfg2.slots t 0)
/-- Window 0's buffer is whole. -/
abbrev hs2_0 (t : Fin cfg2.N) : (ms2_0 t).IsWhole := hstage2_0 ((cfg2.slots t 0).cast nbuf2_0)
/-- Window 1's buffer at point `t`. -/
abbrev ms2_1 (t : Fin cfg2.N) : Memref sig .tc .vmem S8x256 .f32 := win2_1.stage (cfg2.slots t 1)
/-- Window 1's buffer is whole. -/
abbrev hs2_1 (t : Fin cfg2.N) : (ms2_1 t).IsWhole := hstage2_1 ((cfg2.slots t 1).cast nbuf2_1)
/-- Window 2's buffer at point `t`. -/
abbrev ms2_2 (t : Fin cfg2.N) : Memref sig .tc .vmem S1x256 .f32 := win2_2.stage (cfg2.slots t 2)
/-- Window 2's buffer is whole. -/
abbrev hs2_2 (t : Fin cfg2.N) : (ms2_2 t).IsWhole := hstage2_2 ((cfg2.slots t 2).cast nbuf2_2)
/-- Window 3's buffer at point `t`. -/
abbrev ms2_3 (t : Fin cfg2.N) : Memref sig .tc .vmem S1x256 .f32 := win2_3.stage (cfg2.slots t 3)
/-- Window 3's buffer is whole. -/
abbrev hs2_3 (t : Fin cfg2.N) : (ms2_3 t).IsWhole := hstage2_3 ((cfg2.slots t 3).cast nbuf2_3)
/-- Window 4's buffer at point `t`. -/
abbrev ms2_4 (t : Fin cfg2.N) : Memref sig .tc .vmem S256x256 .f32 := win2_4.stage (cfg2.slots t 4)
/-- Window 4's buffer is whole. -/
abbrev hs2_4 (t : Fin cfg2.N) : (ms2_4 t).IsWhole := hstage2_4 ((cfg2.slots t 4).cast nbuf2_4)
/-- Window 5's buffer at point `t`. -/
abbrev ms2_5 (t : Fin cfg2.N) : Memref sig .tc .vmem S1024x256 .bf16 := win2_5.stage (cfg2.slots t 5)
/-- Window 5's buffer is whole. -/
abbrev hs2_5 (t : Fin cfg2.N) : (ms2_5 t).IsWhole := hstage2_5 ((cfg2.slots t 5).cast nbuf2_5)
/-- Window 6's buffer at point `t`. -/
abbrev ms2_6 (t : Fin cfg2.N) : Memref sig .tc .vmem S8x256 .f32 := win2_6.stage (cfg2.slots t 6)
/-- Window 6's buffer is whole. -/
abbrev hs2_6 (t : Fin cfg2.N) : (ms2_6 t).IsWhole := hstage2_6 ((cfg2.slots t 6).cast nbuf2_6)

set_option maxHeartbeats 1000000 in
/-- The body at the first point: the pieces it stores in each output, and the proof that it runs to the end,
    keeps the inputs' buffers and writes those pieces. -/
noncomputable def kernelRun2_A (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : cond2_0 i)
    (x0 : Vec F S1024x256 .bf16) (x1 : Vec F S8x256 .f32) (x2 : Vec F S1x256 .f32) (x3 : Vec F S1x256 .f32) (x4 : Vec F S256x256 .f32) :
    Σ' (L5 : List (View.Piece (Elt F) S1024x256 .bf16)), { L6 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6)) -∗ K ⟨⟩))
          ⊢ wp frame (wpE (defs₀ (F := F)) Variants.none c none) E (cc2__mlp2_body i arg1 harg1 arg2 harg2 arg3 harg3 arg4 harg4 arg5 harg5 arg6 harg6 arg7 harg7) K } := by
  refine ⟨?_, ?_, fun E K => ?run⟩
  case run =>
    simp only [cc2__mlp2_body_eq_skeleton]; unfold cc2__mlp2_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact H6

/-- At the first point the stores cover output 5's block. -/
theorem cover2_A_5 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : cond2_0 i)
    (x0 : Vec F S1024x256 .bf16) (x1 : Vec F S8x256 .f32) (x2 : Vec F S1x256 .f32) (x3 : Vec F S1x256 .f32) (x4 : Vec F S256x256 .f32) (y : S1024x256.Idx) :
    ∃ pc ∈ (kernelRun2_A c i arg1 harg1 arg2 harg2 arg3 harg3 arg4 harg4 arg5 harg5 arg6 harg6 arg7 harg7 hc0 x0 x1 x2 x3 x4).1, y ∈ pc.1.set :=
  View.cover_of_tiledL (kernelRun2_A c i arg1 harg1 arg2 harg2 arg3 harg3 arg4 harg4 arg5 harg5 arg6 harg6 arg7 harg7 hc0 x0 x1 x2 x3 x4).1 S1024x256.size (by sl_kernel_rfl) y

/-- What the first point leaves in output 5's buffer. -/
def out2_A_5 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : cond2_0 i)
    (x0 : Vec F S1024x256 .bf16) (x1 : Vec F S8x256 .f32) (x2 : Vec F S1x256 .f32) (x3 : Vec F S1x256 .f32) (x4 : Vec F S256x256 .f32) : Vec F S1024x256 .bf16 :=
  VO2_5.read (Elt F) (VO2_5.writes (Elt F) VO2_5.junk (kernelRun2_A c i arg1 harg1 arg2 harg2 arg3 harg3 arg4 harg4 arg5 harg5 arg6 harg6 arg7 harg7 hc0 x0 x1 x2 x3 x4).1)

/-- At the first point the stores cover output 6's block. -/
theorem cover2_A_6 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : cond2_0 i)
    (x0 : Vec F S1024x256 .bf16) (x1 : Vec F S8x256 .f32) (x2 : Vec F S1x256 .f32) (x3 : Vec F S1x256 .f32) (x4 : Vec F S256x256 .f32) (y : S8x256.Idx) :
    ∃ pc ∈ (kernelRun2_A c i arg1 harg1 arg2 harg2 arg3 harg3 arg4 harg4 arg5 harg5 arg6 harg6 arg7 harg7 hc0 x0 x1 x2 x3 x4).2.1, y ∈ pc.1.set :=
  View.cover_of_tiledBy (kernelRun2_A c i arg1 harg1 arg2 harg2 arg3 harg3 arg4 harg4 arg5 harg5 arg6 harg6 arg7 harg7 hc0 x0 x1 x2 x3 x4).2.1 ![1, 256] (by sl_kernel_rfl) y

/-- What the first point leaves in output 6's buffer. -/
def out2_A_6 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : cond2_0 i)
    (x0 : Vec F S1024x256 .bf16) (x1 : Vec F S8x256 .f32) (x2 : Vec F S1x256 .f32) (x3 : Vec F S1x256 .f32) (x4 : Vec F S256x256 .f32) : Vec F S8x256 .f32 :=
  VO2_6.read (Elt F) (VO2_6.writes (Elt F) VO2_6.junk (kernelRun2_A c i arg1 harg1 arg2 harg2 arg3 harg3 arg4 harg4 arg5 harg5 arg6 harg6 arg7 harg7 hc0 x0 x1 x2 x3 x4).2.1)

set_option maxHeartbeats 1000000 in
/-- The body at a later point, on the sums `xo6` so far: the pieces it stores in each output, and the proof
    that it runs to the end, keeps the inputs' buffers and writes those pieces. -/
noncomputable def kernelRun2_B (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : ¬cond2_0 i)
    (x0 : Vec F S1024x256 .bf16) (x1 : Vec F S8x256 .f32) (x2 : Vec F S1x256 .f32) (x3 : Vec F S1x256 .f32) (x4 : Vec F S256x256 .f32) (xo6 : Vec F S8x256 .f32) :
    Σ' (L5 : List (View.Piece (Elt F) S1024x256 .bf16)), { L6 : List (View.Piece (Elt F) S8x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (arg7.view.loc (c : Thread nD τ) ↦[arg7.view.set]{fullShare} arg7.view.writes (Elt F) (harg7.unread xo6) L6)) -∗ K ⟨⟩))
          ⊢ wp frame (wpE (defs₀ (F := F)) Variants.none c none) E (cc2__mlp2_body i arg1 harg1 arg2 harg2 arg3 harg3 arg4 harg4 arg5 harg5 arg6 harg6 arg7 harg7) K } := by
  refine ⟨?_, ?_, fun E K => ?run⟩
  case run =>
    simp only [cc2__mlp2_body_eq_skeleton]; unfold cc2__mlp2_body_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexact H6

/-- At a later point the stores cover output 5's block. -/
theorem cover2_B_5 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : ¬cond2_0 i)
    (x0 : Vec F S1024x256 .bf16) (x1 : Vec F S8x256 .f32) (x2 : Vec F S1x256 .f32) (x3 : Vec F S1x256 .f32) (x4 : Vec F S256x256 .f32) (xo6 : Vec F S8x256 .f32) (y : S1024x256.Idx) :
    ∃ pc ∈ (kernelRun2_B c i arg1 harg1 arg2 harg2 arg3 harg3 arg4 harg4 arg5 harg5 arg6 harg6 arg7 harg7 hc0 x0 x1 x2 x3 x4 xo6).1, y ∈ pc.1.set :=
  View.cover_of_tiledL (kernelRun2_B c i arg1 harg1 arg2 harg2 arg3 harg3 arg4 harg4 arg5 harg5 arg6 harg6 arg7 harg7 hc0 x0 x1 x2 x3 x4 xo6).1 S1024x256.size (by sl_kernel_rfl) y

/-- What a later point leaves in output 5's buffer. -/
def out2_B_5 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : ¬cond2_0 i)
    (x0 : Vec F S1024x256 .bf16) (x1 : Vec F S8x256 .f32) (x2 : Vec F S1x256 .f32) (x3 : Vec F S1x256 .f32) (x4 : Vec F S256x256 .f32) (xo6 : Vec F S8x256 .f32) : Vec F S1024x256 .bf16 :=
  VO2_5.read (Elt F) (VO2_5.writes (Elt F) VO2_5.junk (kernelRun2_B c i arg1 harg1 arg2 harg2 arg3 harg3 arg4 harg4 arg5 harg5 arg6 harg6 arg7 harg7 hc0 x0 x1 x2 x3 x4 xo6).1)

/-- What a later point leaves in output 6's buffer: its stores, over what the point before left there. -/
def out2_B_6 (c : Dev nD) (i : grid2.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S1024x256 .bf16) (harg6 : arg6.IsWhole) (arg7 : Memref sig .tc .vmem S8x256 .f32) (harg7 : arg7.IsWhole) (hc0 : ¬cond2_0 i)
    (x0 : Vec F S1024x256 .bf16) (x1 : Vec F S8x256 .f32) (x2 : Vec F S1x256 .f32) (x3 : Vec F S1x256 .f32) (x4 : Vec F S256x256 .f32) (xo6 : Vec F S8x256 .f32) : Vec F S8x256 .f32 :=
  arg7.view.read (Elt F) (arg7.view.writes (Elt F) (harg7.unread xo6) (kernelRun2_B c i arg1 harg1 arg2 harg2 arg3 harg3 arg4 harg4 arg5 harg5 arg6 harg6 arg7 harg7 hc0 x0 x1 x2 x3 x4 xo6).2.1)

/-! ## What the outputs hold after each point -/

/-- What the outputs' buffers hold after the body at point `n`: the first point starts the sums, each later
    one adds to those of the point before. -/
def outsAt2 (c : Dev nD) : (n : ℕ) → n < cfg2.N → Vec F S1024x256 .bf16 × Vec F S8x256 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩), out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    if h0 : (n + 1) % 16 = 0 then
      (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩), out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩))
    else
      (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)

/-- At the first point the outputs hold what that case leaves. -/
theorem outsAt2_A (c : Dev nD) (t : Fin cfg2.N) (h0 : t.val % 16 = 0) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t), out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) ((hcond2_0 t).mpr h0) (iblk2 V c 0 t) (iblk2 V c 1 t) (iblk2 V c 2 t) (iblk2 V c 3 t) (iblk2 V c 4 t)) := by
  obtain ⟨n, hn⟩ := t
  cases n with
  | zero => exact rfl
  | succ n => exact (dif_pos h0).trans rfl

/-- At a later point the outputs hold what that case leaves over the point before. -/
theorem outsAt2_B (c : Dev nD) (t : Fin cfg2.N) (h0 : ¬t.val % 16 = 0) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2, out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (fun h => h0 ((hcond2_0 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the third launch: each array as found, what the body leaves in each window's buffer,
    nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
    | ⟨6, _⟩ => (outsAt2 V c t.val t.isLt).2
  Φ _ := Pipeline.ΦA spec2 c
  q _ := fullShare
  owed _ := 0

/-- The proof data's arrays are those of `V`. -/
theorem A_eq2 (c : Dev nD) (w : Fin cfg2.W) : (dat2 V c).A w = V c (Pipeline.arrRef spec2 w) := by
  dsimp only [dat2]

/-- The body leaves input window 0's block as it was. -/
theorem after2_0 (c : Dev nD) (t : Fin cfg2.N) : (dat2 V c).after 0 t = iblk2 V c 0 t := by dsimp only [dat2]
/-- The body leaves input window 1's block as it was. -/
theorem after2_1 (c : Dev nD) (t : Fin cfg2.N) : (dat2 V c).after 1 t = iblk2 V c 1 t := by dsimp only [dat2]
/-- The body leaves input window 2's block as it was. -/
theorem after2_2 (c : Dev nD) (t : Fin cfg2.N) : (dat2 V c).after 2 t = iblk2 V c 2 t := by dsimp only [dat2]
/-- The body leaves input window 3's block as it was. -/
theorem after2_3 (c : Dev nD) (t : Fin cfg2.N) : (dat2 V c).after 3 t = iblk2 V c 3 t := by dsimp only [dat2]
/-- The body leaves input window 4's block as it was. -/
theorem after2_4 (c : Dev nD) (t : Fin cfg2.N) : (dat2 V c).after 4 t = iblk2 V c 4 t := by dsimp only [dat2]
/-- What the body leaves in output window 5. -/
theorem after2_5 (c : Dev nD) (t : Fin cfg2.N) : (dat2 V c).after 5 t = (outsAt2 V c t.val t.isLt).1 := by dsimp only [dat2]
/-- What the body leaves in output window 6. -/
theorem after2_6 (c : Dev nD) (t : Fin cfg2.N) : (dat2 V c).after 6 t = (outsAt2 V c t.val t.isLt).2 := by dsimp only [dat2]

/-- Input window 0 holds its block when the body runs, newly copied in or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Input window 1 holds its block when the body runs, newly copied in or not. -/
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Input window 2 holds its block when the body runs, newly copied in or not. -/
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Input window 3 holds its block when the body runs, newly copied in or not. -/
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- Input window 4 holds its block when the body runs, newly copied in or not. -/
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- At a later point output 6's buffer still holds what the point before left: nothing was written back
    between. -/
theorem before2_6_B (c : Dev nD) (t : Fin cfg2.N) (h0 : ¬t.val % 16 = 0) (d) :
    (dat2 V c).before 6 t d = (outsAt2 V c (t.val - 1) (Nat.lt_of_le_of_lt (Nat.sub_le _ _) t.isLt)).2 := by
  have hN : t.val < 16 := lt_of_lt_of_eq t.isLt (show cfg2.N = 16 from N_2)
  rw [Dat.before_out_kept _ 6 rfl t (by omega) (Bool.eq_false_iff.mpr fun h => by have := (flush2_6 _).mp h; dsimp only at this; omega)
    (fun _ => rfl) (fun _ _ => rfl)]
  dsimp only [dat2]

/-! ## The body obligation, at a generic point -/

/-- What the body starts from at a point: every window's buffer, each at what it holds there. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- What the body ends with at a point: every window's buffer, each at what the body leaves. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t))

set_option maxHeartbeats 800000 in
/-- The body at a point of the grid, by cases on whether the point is the first. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  have hN : t.val < 16 := lt_of_lt_of_eq t.isLt (show cfg2.N = 16 from N_2)
  by_cases h0 : t.val % 16 = 0
  · rw [outsAt2_A V c t h0]
    unfold out2_A_5 out2_A_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_A c (grid2.coords t) _ _ _ _ _ _ _ _ _ _ _ _ _ _ ((hcond2_0 t).mpr h0) (iblk2 V c 0 t) (iblk2 V c 1 t) (iblk2 V c 2 t) (iblk2 V c 3 t) (iblk2 V c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _)
    unfold owns; iexists _; isplitr
    swap; · iexact H6
    ipureintro; exact View.read_writes_of_cover _ _ _ _ _ (cover2_A_6 c _ _ _ _ _ _ _ _ _ _ _ _ _ _ _ _ _ _ _ _ _)
  · rw [outsAt2_B V c t h0]
    simp only [before2_6_B V c t h0]
    unfold out2_B_5 out2_B_6; (try dsimp only)
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun2_B c (grid2.coords t) _ _ _ _ _ _ _ _ _ _ _ _ _ _ (fun h => h0 ((hcond2_0 t).mp h)) (iblk2 V c 0 t) (iblk2 V c 1 t) (iblk2 V c 2 t) (iblk2 V c 3 t) (iblk2 V c 4 t) _).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, ⟨%e5, H5⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_B_5 c _ _ _ _ _ _ _ _ _ _ _ _ _ _ _ _ _ _ _ _ _ _)
    unfold owns; iexists _; isplitr
    swap; · iexact H6
    ipureintro; rfl

/-- The body the launch runs is this one. -/
theorem defs₀_row2 (t : Fin cfg2.N) :
    defs₀ (F := F) .tc cfg2.body (cfg2.bodyArgs t (cfg2.slots t)) = bodyAt2 t := by
  unfold defs₀; rw [Defs.onTc_tc]

/-- The body meets its obligation at every point of the grid. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.Region3.lean ====
/- The fourth launch: what its body leaves, its proof data and its obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The last launch, from the contents `V` -/

/-! ## The windows' blocks -/

/-- Window `w`'s block at point `t`, read off its array in the contents `V`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

/-- A whole block, as the body reads or writes it. -/
abbrev r3_0 : Rect S8x256 := Rect.unit (s := S8x256) ![0, 0] S1x256.size inb_S8x256_S1x256_0_0
/-- A whole block, as the body reads or writes it. -/
abbrev r3_1 : Rect S8x256 := Rect.unit (s := S8x256) ![1, 0] S1x256.size inb_S8x256_S1x256_1_0
/-- A whole block, as the body reads or writes it. -/
abbrev r3_2 : Rect S1024x256 := Rect.unit (s := S1024x256) ![0, 0] S1024x256.size inb_S1024x256_S1024x256_0_0
/-- A whole block, as the body reads or writes it. -/
abbrev r3_3 : Rect S1x256 := Rect.unit (s := S1x256) ![0, 0] S1x256.size inb_S1x256_S1x256_0_0

/-! ## What the body leaves in each output window's buffer -/

/-- What the body leaves in the output's buffer, from the inputs' blocks: one store. -/
def out3_4 (x0 : Vec F S1024x256 .bf16) (x1 : Vec F S8x256 .f32) (x2 : Vec F S1x256 .f32) (x3 : Vec F S1x256 .f32) : Vec F S1024x256 .f32 :=
  View.canon [⟨r3_2, k3_pay1 (View.ld x1 r3_0) (View.ld x1 r3_1) (View.ld x0 r3_2) (View.ld x2 r3_3) (View.ld x3 r3_3)⟩]

/-- The store covers the output's block. -/
theorem cover3_4 (p0 : Vec F S1024x256 .f32) (y : S1024x256.Idx) :
    ∃ pc ∈ ([⟨r3_2, p0⟩] : List (View.Piece (Elt F) S1024x256 .f32)), y ∈ pc.1.set :=
  View.cover_of_tiled [⟨r3_2, p0⟩] S1024x256.size (by rfl) y

/-! ## The body's triple -/

set_option maxHeartbeats 1000000 in
/-- The body, on buffers that hold the inputs' blocks, ends with those as they were and the output's block
    stored. -/
theorem sound_kernel3 (c : Dev nD) (E : Set ℕ) (i : grid3.Coords) (arg1 : Memref sig .tc .vmem S1024x256 .bf16) (harg1 : arg1.IsWhole) (arg2 : Memref sig .tc .vmem S8x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1024x256 .f32) (harg5 : arg5.IsWhole)
    (x0 : Vec F S1024x256 .bf16) (x1 : Vec F S8x256 .f32) (x2 : Vec F S1x256 .f32) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__bn2_body i arg1 harg1 arg2 harg2 arg3 harg3 arg4 harg4 arg5 harg5) K := by
  simp only [cc3__bn2_body_eq_skeleton]; unfold cc3__bn2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-! ## The pipeline's proof data -/

/-- The proof data of the last launch: each array as found, what the body leaves in each window's buffer,
    nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

/-- The proof data's arrays are those of `V`. -/
theorem A_eq3 (c : Dev nD) (w : Fin cfg3.W) : (dat3 V c).A w = V c (Pipeline.arrRef spec3 w) := by
  dsimp only [dat3]

/-- The body leaves input window 0's block as it was. -/
theorem after3_0 (c : Dev nD) (t : Fin cfg3.N) : (dat3 V c).after 0 t = iblk3 V c 0 t := by dsimp only [dat3]
/-- The body leaves input window 1's block as it was. -/
theorem after3_1 (c : Dev nD) (t : Fin cfg3.N) : (dat3 V c).after 1 t = iblk3 V c 1 t := by dsimp only [dat3]
/-- The body leaves input window 2's block as it was. -/
theorem after3_2 (c : Dev nD) (t : Fin cfg3.N) : (dat3 V c).after 2 t = iblk3 V c 2 t := by dsimp only [dat3]
/-- The body leaves input window 3's block as it was. -/
theorem after3_3 (c : Dev nD) (t : Fin cfg3.N) : (dat3 V c).after 3 t = iblk3 V c 3 t := by dsimp only [dat3]
/-- What the body leaves in output window 4. -/
theorem after3_4 (c : Dev nD) (t : Fin cfg3.N) : (dat3 V c).after 4 t = out3_4 (iblk3 V c 0 t) (iblk3 V c 1 t) (iblk3 V c 2 t) (iblk3 V c 3 t) := by dsimp only [dat3]

/-- Input window 0 holds its block when the body runs, newly copied in or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
/-- Input window 1 holds its block when the body runs, newly copied in or not. -/
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
/-- Input window 2 holds its block when the body runs, newly copied in or not. -/
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
/-- Input window 3 holds its block when the body runs, newly copied in or not. -/
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

/-! ## The body obligation, at a generic point -/

/-- What the body starts from at a point: every window's buffer, each at what it holds there. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- What the body ends with at a point: every window's buffer, each at what the body leaves. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

/-- The body at a point of the grid: it starts from the blocks and ends with what the proof data state. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ (grid3.coords t) _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body the launch runs is this one. -/
theorem defs₀_row3 (t : Fin cfg3.N) :
    defs₀ (F := F) .tc cfg3.body (cfg3.bodyArgs t (cfg3.slots t)) = bodyAt3 t := by
  unfold defs₀; rw [Defs.onTc_tc]

/-- The body meets its obligation at every point of the grid. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Run

end
-- ==== Proof.Launches.lean ====
/- The run of the four launches: the buffers at each boundary, the segments, the final state. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Region0
public import proofs.«01_k».proof.Proof.Region1
public import proofs.«01_k».proof.Proof.Region2
public import proofs.«01_k».proof.Proof.Region3

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the four launches -/

/-- The argument arrays. -/
abbrev argRefs : List (Ref sig .tc) := [main_arg0, main_arg1, main_arg2, main_arg3, main_arg4, main_arg5, main_arg6, main_arg7, main_arg8, main_arg9, main_arg10, main_arg11]

/-! ## The operations before the launches -/

/-- No operation before the launches allocates a buffer. -/
theorem hostOps0_fresh : (hostOps0 : List (HloOp τ sig (Elt F))).Forall fun op => op.fresh = ∅ := by
  simp only [List.Forall]; repeat' constructor
/-- The arrays that the operations before the launches write, in order. -/
abbrev hostOps0_W : List (Ref sig .tc) := [main_v0, main_v1, main_v2, main_v3, main_v4]
/-- Each operation before the launches writes within that list. -/
theorem hostOps0_writes : (hostOps0 : List (HloOp τ sig (Elt F))).Forall fun op => op.writes ⊆ (hostOps0_W.map (Proc.devRef (τ := τ) .tc)).toFinset :=
  StableHlo.forall_writes_sub_of_map rfl
/-- No argument array is in that list. -/
theorem hostOps0_args : ∀ a ∈ argRefs, a ∉ hostOps0_W := ListAll.forall_mem_of_all_decide (by decide +kernel)

/-! ## The buffers between the launches -/

/-- Core `c`'s buffers at the start. -/
abbrev W0 : Dev nD → Valuation τ sig (Elt F) := fun c b => (s₀ m ρ).mem ((c : Dev nD), b)
/-- At the start the arguments are as given. -/
theorem W0_args (c : Dev nD) : ∀ a ∈ argRefs, W0 m ρ c (Proc.devRef .tc a) = m ((c : Thread nD τ).loc a) := fun _ _ => rfl
/-- The buffers after the operations that precede the launches. -/
abbrev W1 : Dev nD → Valuation τ sig (Elt F) := fun c => StableHlo.after hostOps0 (W0 m ρ c)
/-- What those operations do not write is unchanged. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments are as given when the first launch starts. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same buffers, by array. -/
abbrev V1 : (c : Dev nD) → (b : Ref sig .tc) → Buf (Elt F) ((c : Thread nD τ).loc b) := fun c b => W1 m ρ c b
/-- The buffers after the first launch: its arrays as it leaves them, every other buffer as before. -/
def W2 (c : Dev nD) : Valuation τ sig (Elt F) :=
  Pipeline.withArrays spec0 c (W1 m ρ c) fun w => (dat0 (V1 m ρ) c).arrAt w cfg0.N
/-- After the first launch its arrays hold what it leaves. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the first launch's arrays is unchanged across it. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A buffer that is none of the first launch's output arrays is unchanged across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- The first launch has no argument among its outputs. -/
theorem argsIn0 : ∀ a ∈ argRefs, ∀ w : Fin cfg0.W, Pipeline.arrRef spec0 w = a → (cfg0.win w).isOut = false :=
  ListAll.forall_mem_of_all_decide (by decide +kernel)
/-- The arguments are as given when the second launch starts. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same buffers, by array. -/
abbrev V2 : (c : Dev nD) → (b : Ref sig .tc) → Buf (Elt F) ((c : Thread nD τ).loc b) := fun c b => W2 m ρ c b
/-- After the first launch its arrays hold what it leaves, by array. -/
theorem hF0 (c : Dev nD) (w : Fin cfg0.W) : (dat0 (V1 m ρ) c).arrAt w cfg0.N = V2 m ρ c (Pipeline.arrRef spec0 w) :=
  (W2_arr m ρ c w).symm
/-- The first launch leaves every other array as it was. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the second launch: its arrays as it leaves them, every other buffer as before. -/
def W3 (c : Dev nD) : Valuation τ sig (Elt F) :=
  Pipeline.withArrays spec1 c (W2 m ρ c) fun w => (dat1 (V2 m ρ) c).arrAt w cfg1.N
/-- After the second launch its arrays hold what it leaves. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of the second launch's arrays is unchanged across it. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A buffer that is none of the second launch's output arrays is unchanged across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- The second launch has no argument among its outputs. -/
theorem argsIn1 : ∀ a ∈ argRefs, ∀ w : Fin cfg1.W, Pipeline.arrRef spec1 w = a → (cfg1.win w).isOut = false :=
  ListAll.forall_mem_of_all_decide (by decide +kernel)
/-- The arguments are as given when the third launch starts. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same buffers, by array. -/
abbrev V3 : (c : Dev nD) → (b : Ref sig .tc) → Buf (Elt F) ((c : Thread nD τ).loc b) := fun c b => W3 m ρ c b
/-- After the second launch its arrays hold what it leaves, by array. -/
theorem hF1 (c : Dev nD) (w : Fin cfg1.W) : (dat1 (V2 m ρ) c).arrAt w cfg1.N = V3 m ρ c (Pipeline.arrRef spec1 w) :=
  (W3_arr m ρ c w).symm
/-- The second launch leaves every other array as it was. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The buffers after the third launch: its arrays as it leaves them, every other buffer as before. -/
def W4 (c : Dev nD) : Valuation τ sig (Elt F) :=
  Pipeline.withArrays spec2 c (W3 m ρ c) fun w => (dat2 (V3 m ρ) c).arrAt w cfg2.N
/-- After the third launch its arrays hold what it leaves. -/
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
/-- A buffer that is none of the third launch's arrays is unchanged across it. -/
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- A buffer that is none of the third launch's output arrays is unchanged across it. -/
theorem W4_of (c : Dev nD) (r : Ref sig .tc) (h : ∀ w : Fin cfg2.W, Pipeline.arrRef spec2 w = r → (cfg2.win w).isOut = false) :
    W4 m ρ c (Proc.devRef .tc r) = W3 m ρ c (Proc.devRef .tc r) := by
  by_cases hw : ∃ w : Fin cfg2.W, Pipeline.arrRef spec2 w = r
  · obtain ⟨w, rfl⟩ := hw
    exact (W4_arr m ρ c w).trans (((dat2 (V3 m ρ) c).arrAt_in w (h w rfl) _).trans (A_eq2 (V3 m ρ) c w))
  · exact W4_of_ne m ρ c r fun w e => hw ⟨w, e⟩
/-- The third launch has no argument among its outputs. -/
theorem argsIn2 : ∀ a ∈ argRefs, ∀ w : Fin cfg2.W, Pipeline.arrRef spec2 w = a → (cfg2.win w).isOut = false :=
  ListAll.forall_mem_of_all_decide (by decide +kernel)
/-- The arguments are as given when the last launch starts. -/
theorem W4_args (c : Dev nD) : ∀ a ∈ argRefs, W4 m ρ c (Proc.devRef .tc a) = m ((c : Thread nD τ).loc a) :=
  fun a ha => (W4_of m ρ c a (argsIn2 a ha)).trans (W3_args m ρ c a ha)
/-- The same buffers, by array. -/
abbrev V4 : (c : Dev nD) → (b : Ref sig .tc) → Buf (Elt F) ((c : Thread nD τ).loc b) := fun c b => W4 m ρ c b
/-- After the third launch its arrays hold what it leaves, by array. -/
theorem hF2 (c : Dev nD) (w : Fin cfg2.W) : (dat2 (V3 m ρ) c).arrAt w cfg2.N = V4 m ρ c (Pipeline.arrRef spec2 w) :=
  (W4_arr m ρ c w).symm
/-- The third launch leaves every other array as it was. -/
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- The buffers after the last launch: its arrays as it leaves them, every other buffer as before. -/
def W5 (c : Dev nD) : Valuation τ sig (Elt F) :=
  Pipeline.withArrays spec3 c (W4 m ρ c) fun w => (dat3 (V4 m ρ) c).arrAt w cfg3.N
/-- After the last launch its arrays hold what it leaves. -/
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
/-- A buffer that is none of the last launch's arrays is unchanged across it. -/
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb
/-- A buffer that is none of the last launch's output arrays is unchanged across it. -/
theorem W5_of (c : Dev nD) (r : Ref sig .tc) (h : ∀ w : Fin cfg3.W, Pipeline.arrRef spec3 w = r → (cfg3.win w).isOut = false) :
    W5 m ρ c (Proc.devRef .tc r) = W4 m ρ c (Proc.devRef .tc r) := by
  by_cases hw : ∃ w : Fin cfg3.W, Pipeline.arrRef spec3 w = r
  · obtain ⟨w, rfl⟩ := hw
    exact (W5_arr m ρ c w).trans (((dat3 (V4 m ρ) c).arrAt_in w (h w rfl) _).trans (A_eq3 (V4 m ρ) c w))
  · exact W5_of_ne m ρ c r fun w e => hw ⟨w, e⟩
/-- The last launch has no argument among its outputs. -/
theorem argsIn3 : ∀ a ∈ argRefs, ∀ w : Fin cfg3.W, Pipeline.arrRef spec3 w = a → (cfg3.win w).isOut = false :=
  ListAll.forall_mem_of_all_decide (by decide +kernel)
/-- The arguments are as given at the end. -/
theorem W5_args (c : Dev nD) : ∀ a ∈ argRefs, W5 m ρ c (Proc.devRef .tc a) = m ((c : Thread nD τ).loc a) :=
  fun a ha => (W5_of m ρ c a (argsIn3 a ha)).trans (W4_args m ρ c a ha)
/-- The same buffers, by array. -/
abbrev V5 : (c : Dev nD) → (b : Ref sig .tc) → Buf (Elt F) ((c : Thread nD τ).loc b) := fun c b => W5 m ρ c b
/-- After the last launch its arrays hold what it leaves, by array. -/
theorem hF3 (c : Dev nD) (w : Fin cfg3.W) : (dat3 (V4 m ρ) c).arrAt w cfg3.N = V5 m ρ c (Pipeline.arrRef spec3 w) :=
  (W5_arr m ρ c w).symm
/-- The last launch leaves every other array as it was. -/
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

/-! ## The proof data, and what is held between launches -/

/-- No launch prefetches a table. -/
abbrev adm : (p : Fin 4) → (pcfgs (F := F) p).Adm := fun p => (cfgs p).toPCfg_adm
/-- The four launches' proof data, each from the contents its launch starts with. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
/-- No loop needs a variant. -/
abbrev 𝒱₀ : Variants := Variants.none
/-- No core owes another anything. -/
abbrev L : GSem nD τ sig → Finset Unit := fun _ => ∅
/-- So every level is zero. -/
abbrev lv : GSem nD τ sig → Unit → ℕ := fun _ _ => 0
/-- What goes with the buffers throughout: the generator register, and nothing owed. -/
abbrev R (c : Dev nD) : sProp 𝕄 := iprop((∃ r, prngReg c r) ∗ ∃ W, owes (c : Thread nD τ) (0 : CellTallies nD τ sig Unit) W)
/-- A run of operations outside the launches, as a segment of the program. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An array of the program is among the buffers held between launches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end: every array at the last contents, and the generator register. -/
abbrev Tₙ (c : Dev nD) : sProp 𝕄 := iprop(StableHlo.held (c : Thread nD τ) (Pipeline.ucRefs τ sig) (W5 m ρ c) ∗ ∃ r, prngReg c r)

/-! ## The launches as segments -/

set_option backward.isDefEq.respectTransparency.types false in
/-- The first launch as a segment: from the contents `W1` to the contents `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch as a segment: from the contents `W2` to the contents `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch as a segment: from the contents `W3` to the contents `W4`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) (A_eq2 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The last launch as a segment: from the contents `W4` to the contents `W5`. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) (A_eq3 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The whole run -/

/-- The program's five segments, in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .region (reg3 m ρ) ]
/-- The program is the run of its segments. -/
theorem main_run (c : Dev nD) : main (F := F) c = Pipeline.Seg.run (segs m ρ) := (main_chain c).trans (by chain_rfl)

/-- Every semaphore belongs to a launch. -/
theorem no_unscoped : ∀ sm : SemLoc sig, sm.isScoped .tc = true := by decide

set_option backward.isDefEq.respectTransparency.types false in
/-- The run: from any memory with zero counters every fair execution ends without fault, with the arrays at
    the last contents `W5` and every counter at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- After the run an argument array is as given. -/
theorem arg_kept {r : PUnit × MemSt nD τ sig (Elt F)} (c : Dev nD)
    (h : ∀ b ∈ Pipeline.ucRefs τ sig, r.2.mem (((c : Thread nD τ)).1, b) = W5 m ρ c b)
    (a : Ref sig .tc) (ha : a ∈ argRefs) (hu : ¬ (Proc.devRef .tc a : DevRef τ sig).isScoped := by decide) :
    r.2.mem ((c.tc : Thread nD τ).loc a) = m ((c.tc : Thread nD τ).loc a) :=
  (h _ (mem_uc a hu)).trans (W5_args m ρ c a ha)

end Cert.KernelIdeal.Run

end
-- ==== Proof.Frames.lean ====
/- The frame claims: the kernel's run (Launches.lean) read at its arguments and counters, for both
   printings of the kernel, and the reference's run. -/
module

public import proofs.«01_k».proof.Defs
public import proofs.«01_k».proof.Proof.Launches
public import proofs.«01_k».proof.Proof.Gen.Kernel
public import proofs.«01_k».proof.Proof.Gen.KernelIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

section Kernel

open Cert.KernelIdeal Cert.KernelIdeal.Gen Cert.KernelIdeal.Run

variable {F : FTy → Type} [FloatOps F]

/-- What holds every buffer the run tracks holds the twelve arguments as launched. -/
theorem args_kept (m : (ℓ : Loc nD τ sig) → Buf (Elt F) ℓ) (ρ : Dev nD → PrngReg) {r : PUnit × MemSt nD τ sig (Elt F)} (c : Dev nD)
    (h : ∀ b ∈ Pipeline.ucRefs τ sig, r.2.mem ((c.tc : Thread nD τ).1, b) = W5 m ρ c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k := fun a ha hu => arg_kept m ρ c h a ha hu
  exact ⟨k main_arg0 (by decide) (by decide), k main_arg1 (by decide) (by decide), k main_arg2 (by decide) (by decide),
    k main_arg3 (by decide) (by decide), k main_arg4 (by decide) (by decide), k main_arg5 (by decide) (by decide),
    k main_arg6 (by decide) (by decide), k main_arg7 (by decide) (by decide), k main_arg8 (by decide) (by decide),
    k main_arg9 (by decide) (by decide), k main_arg10 (by decide) (by decide), k main_arg11 (by decide) (by decide)⟩

/-- From any memory with zero counters the kernel ends with its result as the last region leaves it, its twelve
    arguments as launched and every counter at zero, at any float values. -/
theorem kernel_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v8) = W5 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨h.1 c _ (mem_uc main_v8 (by decide)), args_kept m ρ c (h.1 c)⟩, h.2⟩) (run_all m ρ)

/-- Its arguments and counters alone. -/
theorem kernel_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => (h.1 c).2, h.2⟩) (kernel_run m ρ)

end Kernel

/-- The two printings of the second launch's body are one text. -/
theorem knn_body_eq {F : FTy → Type} [FloatOps F] :
    (@Cert.Kernel.cc1__knn_body F _ _) = @Cert.KernelIdeal.cc1__knn_body F _ _ := rfl

set_option maxHeartbeats 4000000 in
/-- The two printings' body tables agree, label by label. -/
theorem defs₀_eq {F : FTy → Type} [FloatOps F] : (Cert.Kernel.defs₀ (F := F)) = Cert.KernelIdeal.defs₀ (F := F) := by
  unfold Cert.Kernel.defs₀ Cert.KernelIdeal.defs₀
  refine congrArg Defs.onTc ?_
  funext l x
  match l, x with
  | 0, (t, s) => rfl
  | 1, (t, s) =>
    dsimp only
    rw [knn_body_eq]
    rfl
  | 2, (t, s) => rfl
  | 3, (t, s) => rfl

/-- So the whole body tables agree. -/
theorem defs_eq {F : FTy → Type} [FloatOps F] : (Cert.Kernel.defs (F := F)) = Cert.KernelIdeal.defs (F := F) := by
  unfold Cert.Kernel.defs Cert.KernelIdeal.defs
  exact congrArg (Idealize.ShloMosaic.Pipeline.defs _) defs₀_eq

/-- The kernel as printed: its text is that of the idealized printing, so the run above is its run. -/
theorem frame_kernel : Cert.quiescent_Kernel := by
  intro m g _
  rw [defs_eq]
  exact kernel_frame (F := Bits) m g

/-- The idealized kernel. -/
theorem frame_kernelIdeal : Cert.quiescent_KernelIdeal := fun m g _ => kernel_frame (F := Ideal) m g

/-- The reference: its run's arguments, and the counters because it declares none. -/
theorem frame_reference : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

end Cert.Proof

end
-- ==== Proof.Maths.lean ====
/-
  The mathematics both programs share, over the reals: the three nearest points of a row and the two ways of finding
  them (three rounds of minimum-and-mask, and a stable sort); the interpolation followed by a linear layer, in
  either order; and batch normalisation from the two moments or from the centred squares.
-/
module

public import Idealize.ShloMosaic.PureOps
public import Idealize.ShloMosaic.Lib.SortFacts
public import Idealize.ShloMosaic.Lib.IdealHost
public import Mathlib.Data.EReal.Inv

@[expose] public section

noncomputable section

namespace Cert.Knn

open Idealize.ShloMosaic

/-! ## Sums and quotients of reals inside the extended reals -/

/-- A sum of reals, taken in the extended reals, is the real sum. -/
theorem sum_coe {ι : Type} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

/-- A quotient of reals by a nonzero real is the real quotient. -/
theorem div_real (x : ℝ) {y : ℝ} (hy : y ≠ 0) : Ideal.div (x : EReal) (y : EReal) = ((x / y : ℝ) : EReal) := by
  rw [Ideal.div_coe hy, ← EReal.coe_mul, mul_one_div]

/-- The greater of two reals is the real greater one. -/
theorem max_real (x y : ℝ) : max (x : EReal) (y : EReal) = ((max x y : ℝ) : EReal) :=
  (EReal.coe_strictMono.monotone.map_max).symm

/-! ## The three nearest -/

/-- `p` lists the three positions where `d` is least, in strictly increasing order of `d`, every other position
    being strictly farther, and those three distances real. -/
structure Nearest {n : ℕ} (d : Fin n → EReal) (p : Fin 3 → Fin n) : Prop where
  lt01 : d (p 0) < d (p 1)
  lt12 : d (p 1) < d (p 2)
  rest : ∀ j, j ≠ p 0 → j ≠ p 1 → j ≠ p 2 → d (p 2) < d j
  real : ∀ k, d (p k) = ((d (p k)).toReal : EReal)

namespace Nearest

variable {n : ℕ} {d : Fin n → EReal} {p : Fin 3 → Fin n} (h : Nearest d p)
include h

/-- Every position but the first is strictly farther than the first. -/
theorem lt0 (j : Fin n) (hj : j ≠ p 0) : d (p 0) < d j := by
  by_cases h1 : j = p 1
  · rw [h1]; exact h.lt01
  by_cases h2 : j = p 2
  · rw [h2]; exact h.lt01.trans h.lt12
  exact (h.lt01.trans h.lt12).trans (h.rest j hj h1 h2)

/-- Every position but the first two is strictly farther than the second. -/
theorem lt1 (j : Fin n) (hj : j ≠ p 0) (hj1 : j ≠ p 1) : d (p 1) < d j := by
  by_cases h2 : j = p 2
  · rw [h2]; exact h.lt12
  exact h.lt12.trans (h.rest j hj hj1 h2)

/-- The three distances are below `⊤`. -/
theorem ne_top (k : Fin 3) : d (p k) ≠ ⊤ := fun e => EReal.coe_ne_top _ ((h.real k).symm.trans e)

/-- The three positions differ. -/
theorem ne10 : p 1 ≠ p 0 := fun e => absurd h.lt01 (by rw [e]; exact lt_irrefl _)
/-- The third position is not the second. -/
theorem ne21 : p 2 ≠ p 1 := fun e => absurd h.lt12 (by rw [e]; exact lt_irrefl _)
/-- The third position is not the first. -/
theorem ne20 : p 2 ≠ p 0 := fun e => absurd (h.lt01.trans h.lt12) (by rw [e]; exact lt_irrefl _)

/-- The positions at the least distance: the first alone. -/
theorem eq0 (j : Fin n) : d j = d (p 0) ↔ j = p 0 := by
  exact ⟨fun e => by_contra fun hj => absurd (h.lt0 j hj) (by rw [e]; exact lt_irrefl _), fun e => by rw [e]⟩

/-- With the first masked, the positions at the least distance: the second alone. -/
theorem eq1 (j : Fin n) : (if j = p 0 then (⊤ : EReal) else d j) = d (p 1) ↔ j = p 1 := by
  split
  · rename_i e
    exact ⟨fun e' => absurd e'.symm (h.ne_top _), fun e' => absurd (e'.symm.trans e) h.ne10⟩
  · rename_i hj
    exact ⟨fun e => by_contra fun hj1 => absurd (h.lt1 j hj hj1) (by rw [e]; exact lt_irrefl _), fun e => by rw [e]⟩

/-- With the first two masked, the positions at the least distance: the third alone. -/
theorem eq2 (j : Fin n) : (if j = p 1 then (⊤ : EReal) else if j = p 0 then ⊤ else d j) = d (p 2) ↔ j = p 2 := by
  split
  · rename_i e
    exact ⟨fun e' => absurd e'.symm (h.ne_top _), fun e' => absurd (e'.symm.trans e) h.ne21⟩
  split
  · rename_i e
    exact ⟨fun e' => absurd e'.symm (h.ne_top _), fun e' => absurd (e'.symm.trans e) h.ne20⟩
  · rename_i hj1 hj
    exact ⟨fun e => by_contra fun hj2 => absurd (h.rest j hj hj1 hj2) (by rw [e]; exact lt_irrefl _), fun e => by rw [e]⟩

end Nearest

/-- The minimum of a finite family is its value at any position where it is least. -/
theorem fold_min_eq {n : ℕ} (f : Fin n → EReal) (p : Fin n) (hp : ∀ j, f p ≤ f j) : Finset.univ.fold min ⊤ f = f p := by
  apply le_antisymm
  · exact (Finset.fold_min_le _).2 (Or.inr ⟨p, Finset.mem_univ p, le_refl _⟩)
  · exact (Finset.le_fold_min _).2 ⟨le_top, fun j _ => hp j⟩

namespace Nearest

variable {n : ℕ} {d : Fin n → EReal} {p : Fin 3 → Fin n} (h : Nearest d p)
include h

/-- The least distance. -/
theorem min0 : Finset.univ.fold min ⊤ (fun j => d j) = d (p 0) := by
  refine fold_min_eq _ (p 0) fun j => ?_
  by_cases hj : j = p 0
  · rw [hj]
  · exact (h.lt0 j hj).le

/-- The least distance once the first position is masked. -/
theorem min1 : Finset.univ.fold min ⊤ (fun j => if j = p 0 then (⊤ : EReal) else d j) = d (p 1) := by
  refine (fold_min_eq _ (p 1) fun j => ?_).trans ((h.eq1 (p 1)).2 rfl)
  rw [(h.eq1 (p 1)).2 rfl]
  split
  · exact le_top
  · rename_i hj
    by_cases hj1 : j = p 1
    · rw [hj1]
    · exact (h.lt1 j hj hj1).le

/-- The least distance once the first two positions are masked. -/
theorem min2 : Finset.univ.fold min ⊤ (fun j => if j = p 1 then (⊤ : EReal) else if j = p 0 then ⊤ else d j)
    = d (p 2) := by
  refine (fold_min_eq _ (p 2) fun j => ?_).trans ((h.eq2 (p 2)).2 rfl)
  rw [(h.eq2 (p 2)).2 rfl]
  split
  · exact le_top
  split
  · exact le_top
  · rename_i hj1 hj
    by_cases hj2 : j = p 2
    · rw [hj2]
    · exact (h.rest j hj hj1 hj2).le

end Nearest

/-! ## The stable sort finds the three nearest -/

/-- The position the stable sort by the total greater-than puts `k`-th. -/
def order {n : ℕ} (x : Fin n → EReal) : Fin n → Fin n :=
  sortedFrom fun k k' => (FloatOps.cmpfTotal (F := Ideal) (φ := .f32) .gt (x k) (x k')) == 1#1

/-- The total greater-than on the extended reals is their greater-than. -/
theorem cmpfTotal_gt (a b : EReal) : ((FloatOps.cmpfTotal (F := Ideal) (φ := .f32) .gt a b) == 1#1) = decide (b < a) := by
  rw [show FloatOps.cmpfTotal (F := Ideal) (φ := .f32) .gt a b = BitVec.ofBool (decide (b < a)) from rfl]
  by_cases h : b < a <;> simp [h]

/-- The stable sort lists the values from the greatest down. -/
theorem order_anti {n : ℕ} (x : Fin n → EReal) (i j : Fin n) (hij : i < j) : x (order x j) ≤ x (order x i) := by
  have hB := sortedFrom_noInversion
    (fun k k' => (FloatOps.cmpfTotal (F := Ideal) (φ := .f32) .gt (x k) (x k')) == 1#1)
    (fun k k' => (FloatOps.cmpfTotal (F := Ideal) (φ := .f32) .gt (x k) (x k')) == 1#1)
    (fun a b h => by
      rw [cmpfTotal_gt] at h ⊢
      exact decide_eq_false (not_lt.2 (of_decide_eq_true h).le))
    (fun a b h => h)
    (fun a b c h h' => by
      rw [cmpfTotal_gt] at h h' ⊢
      exact decide_eq_false (not_lt.2 ((not_lt.1 (of_decide_eq_false h)).trans (not_lt.1 (of_decide_eq_false h')))))
    i j hij
  rw [cmpfTotal_gt] at hB
  exact not_lt.1 (of_decide_eq_false hB)

/-- Where the four greatest of the negated distances are strictly decreasing, the first three are at the three nearest,
    and those are at real distances. -/
theorem nearest_of_order {n : ℕ} (d : Fin n → EReal) (h0 : ∀ j, 0 ≤ d j) (x : Fin n → EReal) (hx : ∀ j, x j = -d j)
    (k : Fin 4 → Fin n) (hk : ∀ i, (k i).val = i.val)
    (h : ∀ i : Fin 3, x (order x (k i.succ)) < x (order x (k i.castSucc))) :
    Nearest d (fun i => order x (k i.castSucc)) := by
  have hd : ∀ a b, x a < x b → d b < d a := fun a b hab => by
    rw [hx, hx, EReal.neg_lt_neg_iff] at hab; exact hab
  refine ⟨hd _ _ (h 0), hd _ _ (h 1), fun j h0 h1 h2 => ?_, fun i => (EReal.coe_toReal
    (ne_top_of_lt (hd _ _ (h i))) (ne_bot_of_le_ne_bot EReal.zero_ne_bot (h0 _))).symm⟩
  obtain ⟨i, rfl⟩ := sortedFrom_surjective
    (fun k k' => (FloatOps.cmpfTotal (F := Ideal) (φ := .f32) .gt (x k) (x k')) == 1#1) j
  change d _ < d (order x i)
  have e : ∀ q : Fin 4, i.val = q.val → i = k q := fun q hq => Fin.ext (hq.trans (hk q).symm)
  have hi0 : i.val ≠ 0 := fun hi => h0 (congrArg (order x) (e 0 hi))
  have hi1 : i.val ≠ 1 := fun hi => h1 (congrArg (order x) (e 1 hi))
  have hi2 : i.val ≠ 2 := fun hi => h2 (congrArg (order x) (e 2 hi))
  refine hd _ _ (lt_of_le_of_lt ?_ (h 2))
  by_cases hi3 : i.val = 3
  · exact le_of_eq (congrArg (fun q => x (order x q)) (e 3 hi3))
  · refine order_anti x _ _ ?_
    rw [Fin.lt_def, hk]
    change 3 < i.val
    omega

/-! ## The interpolation and the linear layer -/

/-- The inverse-distance weight, the distance held above `ε`. -/
def weight (ε t : ℝ) : ℝ := 1 / max t ε

/-- A weight is positive. -/
theorem weight_pos {ε : ℝ} (hε : 0 < ε) (t : ℝ) : 0 < weight ε t := one_div_pos.2 (lt_max_of_lt_right hε)

/-- A sum against a row that is zero off three positions. -/
theorem sum_select {n : ℕ} (p : Fin 3 → Fin n) (a : Fin 3 → ℝ) (y : Fin n → ℝ) :
    (∑ x, ((if x = p 0 then a 0 else 0) + (if x = p 1 then a 1 else 0) + (if x = p 2 then a 2 else 0)) * y x)
      = ∑ k, a k * y (p k) := by
  simp [add_mul, Finset.sum_add_distrib, Fin.sum_univ_three]

/-- Interpolating and then applying a linear map is interpolating the mapped rows. -/
theorem interp_linear {n C : ℕ} (x : Fin n → Fin C → ℝ) (p : Fin 3 → Fin n) (w : Fin 3 → ℝ) (D : ℝ) (W : Fin C → ℝ) :
    (∑ e, ((∑ k, x (p k) e * w k) / D) * W e) = ∑ k, (w k / D) * ∑ e, x (p k) e * W e := by
  simp only [Finset.sum_div, Finset.sum_mul, Finset.mul_sum]
  rw [Finset.sum_comm]
  exact Finset.sum_congr rfl fun k _ => Finset.sum_congr rfl fun e _ => by ring

/-! ## Batch normalisation -/

/-- The mean of a column. -/
def mean (h : Fin 16384 → ℝ) : ℝ := (∑ i, h i) * (1 / 16384)

/-- The variance of a column, from its two moments. -/
def var (h : Fin 16384 → ℝ) : ℝ := (∑ i, h i * h i) * (1 / 16384) - mean h * mean h

/-- The mean of the centred squares is the second moment less the squared mean. -/
theorem var_eq (h : Fin 16384 → ℝ) : (∑ i, (h i - mean h) * (h i - mean h)) / 16384 = var h := by
  have e : ∀ i, (h i - mean h) * (h i - mean h) = h i * h i - 2 * mean h * h i + mean h * mean h := fun i => by ring
  simp only [e, Finset.sum_add_distrib, Finset.sum_sub_distrib, ← Finset.mul_sum]
  have hs : (∑ i, h i) = 16384 * mean h := by unfold mean; ring
  rw [hs]
  unfold var
  simp
  ring

/-- A variance is not negative. -/
theorem var_nonneg (h : Fin 16384 → ℝ) : 0 ≤ var h := by
  rw [← var_eq]
  exact div_nonneg (Finset.sum_nonneg fun i _ => mul_self_nonneg _) (by norm_num)

/-- The normalised column: centred and divided by the root of the variance plus `ε`. -/
def normed (ε : ℝ) (h : Fin 16384 → ℝ) (r : Fin 16384) : ℝ := (h r - mean h) * (Real.sqrt (var h + ε))⁻¹

section
variable {ε : ℝ} (hε : 0 < ε) (h : Fin 16384 → ℝ)
include hε

/-- A variance with something positive added is positive. -/
theorem var_eps_pos : 0 < var h + ε := add_pos_of_nonneg_of_pos (var_nonneg h) hε

/-- The normalised and scaled element as the moments give it: the inverse root taken first and scaled. -/
theorem norm_of_moments (r : Fin 16384) (g b : EReal) (s1 s2 m : EReal) (hm : m = ((1 / 16384 : ℝ) : EReal))
    (h1 : s1 = ((∑ i, h i : ℝ) : EReal)) (h2 : s2 = ((∑ i, h i * h i : ℝ) : EReal)) :
    ((h r : EReal) - s1 * m) * (Ideal.rsqrt (s2 * m - s1 * m * (s1 * m) + (ε : EReal)) * g) + b
      = (normed ε h r : EReal) * g + b := by
  have hs1 : s1 * m = (mean h : EReal) := by rw [h1, hm, ← EReal.coe_mul]; rfl
  have hs2 : s2 * m - s1 * m * (s1 * m) + (ε : EReal) = ((var h + ε : ℝ) : EReal) := by
    rw [hs1, h2, hm, ← EReal.coe_mul, ← EReal.coe_mul, ← EReal.coe_sub, ← EReal.coe_add]; rfl
  have hp := var_eps_pos hε h
  rw [hs2, hs1, Ideal.rsqrt_coe, if_neg (not_lt.2 hp.le), if_neg hp.ne', ← mul_assoc, ← EReal.coe_sub, ← EReal.coe_mul]
  rfl

/-- The normalised and scaled element as the centred squares give it: a division by the root, then the scale. -/
theorem norm_of_centred (r : Fin 16384) (g b : EReal) :
    Ideal.div ((h r : EReal) - (mean h : EReal))
        (Ideal.sqrt (Ideal.div (∑ i, ((h i : EReal) - (mean h : EReal)) * ((h i : EReal) - (mean h : EReal))) ((16384 : ℝ) : EReal)
          + (ε : EReal))) * g + b
      = (normed ε h r : EReal) * g + b := by
  have hv : Ideal.div (∑ i, ((h i : EReal) - (mean h : EReal)) * ((h i : EReal) - (mean h : EReal))) ((16384 : ℝ) : EReal)
      + (ε : EReal) = ((var h + ε : ℝ) : EReal) := by
    simp only [← EReal.coe_sub, ← EReal.coe_mul]
    rw [sum_coe, div_real _ (by norm_num), var_eq, ← EReal.coe_add]
  have hp := var_eps_pos hε h
  rw [hv, Ideal.sqrt_coe, if_neg (not_lt.2 hp.le), ← EReal.coe_sub, div_real _ (Real.sqrt_pos.2 hp).ne']
  rfl

end

/-- The mean as a quotient. -/
theorem mean_div (h : Fin 16384 → ℝ) : Ideal.div (∑ i, (h i : EReal)) ((16384 : ℝ) : EReal) = (mean h : EReal) := by
  rw [sum_coe, div_real _ (by norm_num)]
  unfold mean
  rw [mul_one_div]

/-! ## The constants the programs write -/

/-- The floor of the squared distances. -/
def epsD : ℝ := 15111573 * (2 : ℝ) ^ (-77 : Int)

/-- What batch normalisation adds to the variance. -/
def epsB : ℝ := 10995116 * (2 : ℝ) ^ (-40 : Int)

/-- The floor of the distances is positive. -/
theorem epsD_pos : 0 < epsD := by unfold epsD; positivity
/-- What is added to the variance is positive. -/
theorem epsB_pos : 0 < epsB := by unfold epsB; positivity

/-- The floor of the distances, from its bits. -/
theorem bits_epsD : Ideal.ofBits .f32 619091349#32 = (epsD : EReal) := by
  simp [Ideal.ofBits, Ideal.ieee, epsD, -EReal.coe_mul]
/-- What is added to the variance, from its bits. -/
theorem bits_epsB : Ideal.ofBits .f32 925353388#32 = (epsB : EReal) := by
  simp [Ideal.ofBits, Ideal.ieee, epsB, -EReal.coe_mul]
/-- One over the number of rows, from its bits. -/
theorem bits_inv : Ideal.ofBits .f32 947912704#32 = ((1 / 16384 : ℝ) : EReal) := by
  simp [Ideal.ofBits, Ideal.ieee, -EReal.coe_mul]; norm_num
/-- The number of rows, from its bits. -/
theorem bits_num : Ideal.ofBits .f32 1182793728#32 = ((16384 : ℝ) : EReal) := by
  simp [Ideal.ofBits, Ideal.ieee, -EReal.coe_mul]; norm_num
/-- Plus infinity, from its bits. -/
theorem bits_top : Ideal.ofBits .f32 2139095040#32 = ⊤ := by
  simp [Ideal.ofBits, Ideal.ieee]
/-- Minus infinity, from its bits. -/
theorem bits_bot : Ideal.ofBits .f32 4286578688#32 = ⊥ := by
  simp [Ideal.ofBits, Ideal.ieee]

/-- The inverse of a distance held above the floor is its weight. -/
theorem weight_real (t : ℝ) : Ideal.div 1 (max (t : EReal) (epsD : EReal)) = (weight epsD t : EReal) := by
  rw [max_real, show (1 : EReal) = ((1 : ℝ) : EReal) from rfl, div_real _ (lt_max_of_lt_right epsD_pos).ne']
  rfl

/-- That of a nearest point's distance. -/
theorem Nearest.weight_eq {n : ℕ} {d : Fin n → EReal} {p : Fin 3 → Fin n} (h : Nearest d p) (k : Fin 3) :
    Ideal.div 1 (max (d (p k)) (epsD : EReal)) = (weight epsD (d (p k)).toReal : EReal) :=
  (congrArg (fun t => Ideal.div 1 (max t (epsD : EReal))) (h.real k)).trans (weight_real _)

end Cert.Knn
-- ==== Proof.Spec.lean ====
/-
  The computation over the reals: interpolation from the three nearest coarse points, then two linear layers each
  batch-normalised and rectified.
-/
module

public import proofs.«01_k».proof.Proof.Maths

@[expose] public section

noncomputable section

namespace Cert.Knn

/-- The weights' sum. -/
def denom (w : Fin 3 → ℝ) : ℝ := w 0 + w 1 + w 2

/-- Row `i` of block `m` of 1024 rows. -/
def row (m : ℕ) (i : Fin 1024) : Fin 16384 := ⟨(1024 * m + i.val) % 16384, Nat.mod_lt _ (by norm_num)⟩

/-- A row's number. -/
theorem row_val {m : ℕ} (hm : m < 16) (i : Fin 1024) : (row m i).val = 1024 * m + i.val :=
  Nat.mod_eq_of_lt (by omega)

/-- The sum of a column over its first `n` blocks. -/
def upto (f : Fin 16384 → ℝ) (n : ℕ) : ℝ := ∑ m ∈ Finset.range n, ∑ i, f (row m i)

/-- One more block adds its sum. -/
theorem upto_succ (f : Fin 16384 → ℝ) (n : ℕ) : upto f (n + 1) = upto f n + ∑ i, f (row n i) :=
  Finset.sum_range_succ _ _

/-- Over no block the sum is zero. -/
theorem upto_zero (f : Fin 16384 → ℝ) : upto f 0 = 0 := Finset.sum_range_zero _

/-- What starts at the first block's sum and gains each later block's is the sum over the blocks so far. -/
theorem eq_upto_of_steps (S : ∀ n, n < 16 → EReal) (f : Fin 16384 → ℝ)
    (h0 : S 0 (by norm_num) = ((∑ i, f (row 0 i) : ℝ) : EReal))
    (hs : ∀ n (hn : n + 1 < 16), S (n + 1) hn = S n (by omega) + ((∑ i, f (row (n + 1) i) : ℝ) : EReal)) :
    ∀ n hn, S n hn = (upto f (n + 1) : EReal) := by
  intro n
  induction n with
  | zero => intro hn; rw [upto_succ, upto_zero, zero_add]; exact h0
  | succ n ih => intro hn; rw [hs, ih (by omega), upto_succ f (n + 1), EReal.coe_add]

/-- All sixteen blocks are the whole column. -/
theorem upto_all (f : Fin 16384 → ℝ) : upto f 16 = ∑ r, f r := by
  unfold upto
  rw [Finset.sum_range, ← Fintype.sum_prod_type' (f := fun (m : Fin 16) (i : Fin 1024) => f (row m.val i))]
  refine Fintype.sum_equiv (finProdFinEquiv (m := 16) (n := 1024)) _ _ fun x => congrArg f (Fin.ext ?_)
  rw [row_val x.1.isLt]
  simp only [finProdFinEquiv, Equiv.coe_fn_mk]
  omega

/-- A square is not negative. -/
theorem square_nonneg (x : EReal) : 0 ≤ x * x := by
  rcases le_total 0 x with h | h
  · exact EReal.mul_nonneg h h
  · rw [← neg_mul_neg]
    exact EReal.mul_nonneg (EReal.neg_nonneg.2 h) (EReal.neg_nonneg.2 h)

/-- The inputs both programs read, all but the points' coordinates as real numbers, and for every fine point the
    three coarse points listed for it. -/
structure Data where
  xc : Fin 4096 → Fin 256 → ℝ
  pc : Fin 4096 → Fin 3 → EReal
  xf : Fin 16384 → Fin 128 → ℝ
  pf : Fin 16384 → Fin 3 → EReal
  W1 : Fin 384 → Fin 256 → ℝ
  g1 : Fin 256 → ℝ
  b1 : Fin 256 → ℝ
  W2 : Fin 256 → Fin 256 → ℝ
  p : Fin 16384 → Fin 3 → Fin 4096

namespace Data

variable (D : Data)

/-- The squared distance between a fine and a coarse point. -/
def dist (r : Fin 16384) (j : Fin 4096) : EReal := ∑ e, (D.pf r e - D.pc j e) * (D.pf r e - D.pc j e)

/-- The sum of squares is not negative. -/
theorem dist_nonneg (r : Fin 16384) (j : Fin 4096) : 0 ≤ D.dist r j :=
  Finset.sum_nonneg fun _ _ => square_nonneg _

/-- The three listed points are the three nearest. -/
def Listed : Prop := ∀ r, Nearest (D.dist r) (D.p r)

/-- The weight of a fine point's `k`-th nearest. -/
def wt (r : Fin 16384) (k : Fin 3) : ℝ := weight epsD (D.dist r (D.p r k)).toReal

/-- The three weights' sum is positive. -/
theorem denom_pos (r : Fin 16384) : 0 < denom (D.wt r) :=
  add_pos (add_pos (weight_pos epsD_pos _) (weight_pos epsD_pos _)) (weight_pos epsD_pos _)

/-- A weight row that multiplies the interpolated features. -/
def up (e : Fin 256) : Fin 384 := ⟨e.val, by omega⟩
/-- A weight row that multiplies the fine features. -/
def low (e : Fin 128) : Fin 384 := ⟨256 + e.val, by omega⟩

/-- The coarse features through the upper rows of the first weights. -/
def y (j : Fin 4096) (c : Fin 256) : ℝ := ∑ e, D.xc j e * D.W1 (up e) c

/-- The first linear layer. -/
def h1 (r : Fin 16384) (c : Fin 256) : ℝ :=
  (∑ k, D.wt r k / denom (D.wt r) * D.y (D.p r k) c) + ∑ e, D.xf r e * D.W1 (low e) c

/-- The first layer normalised, scaled and rectified. -/
def a1 (r : Fin 16384) (c : Fin 256) : ℝ := max (normed epsB (fun q => D.h1 q c) r * D.g1 c + D.b1 c) 0

/-- The second linear layer. -/
def h2 (r : Fin 16384) (c : Fin 256) : ℝ := ∑ e, D.a1 r e * D.W2 e c

/-- The result: the second layer normalised, scaled by `g` and shifted by `b`, rectified. -/
def out (g b : EReal) (r : Fin 16384) (c : Fin 256) : EReal :=
  max ((normed epsB (fun q => D.h2 q c) r : EReal) * g + b) 0

end Data

end Cert.Knn
-- ==== Proof.Body.lean ====
/-
  What the kernel's four bodies compute from the blocks they read, element by element, as real numbers: the matrix
  product of the coarse features; the squared distances, the three nearest, their weights and the first linear
  layer; the column sums; and the normalised rows.
-/
module

public import proofs.«01_k».proof.Proof.Spec
public import proofs.«01_k».proof.Proof.Gen.KernelIdeal.Skeleton
public import Idealize.ShloMosaic.Lib.Pointwise

@[expose] public section

set_option maxRecDepth 16384

noncomputable section

namespace Cert.KernelIdeal.Body

open Cert.KernelIdeal Cert.KernelIdeal.Gen Cert.Knn Idealize.ShloMosaic

/-! ## The rank-one matrix product -/

/-- The first body: the product of the coarse features and the upper rows of the weights. -/
theorem product_apply (v0 : Vec Ideal S4096x256 .f32) (v1 : Vec Ideal S256x256 .f32) (i : Fin 4096) (j : Fin 256) :
    k0_pay1 v0 v1 (ix2 i j) = ∑ e, v0 (ix2 i e) * v1 (ix2 e j) := by
  pointwise [k0_pay1]

/-! ## The nearest three and the first layer -/

section knn

variable (v3 : Vec Ideal S1024x1 .f32) (v4 : Vec Ideal S1x4096 .f32) (v10 : Vec Ideal S1024x1 .f32)
  (v11 : Vec Ideal S1x4096 .f32) (v18 : Vec Ideal S1024x1 .f32) (v19 : Vec Ideal S1x4096 .f32)

/-- The squared distance, of the three coordinates' differences. -/
theorem dist_apply (r : Fin 1024) (j : Fin 4096) (a b : Fin 3 → EReal)
    (h3 : v3 (ix2 r 0) = a 0) (h4 : v4 (ix2 0 j) = b 0) (h10 : v10 (ix2 r 0) = a 1)
    (h11 : v11 (ix2 0 j) = b 1) (h18 : v18 (ix2 r 0) = a 2) (h19 : v19 (ix2 0 j) = b 2) :
    k1_pay4 v3 v4 v10 v11 v18 v19 (ix2 r j) = ∑ e, (a e - b e) * (a e - b e) := by
  pointwise [k1_pay4]
  rw [h3, h4, h10, h11, h18, h19]
  rw [Fin.sum_univ_three]

variable (r : Fin 1024) (d : Fin 4096 → EReal) (p : Fin 3 → Fin 4096) (hp : Nearest d p)
  (hd : ∀ j, k1_pay4 v3 v4 v10 v11 v18 v19 (ix2 r j) = d j)
include hp hd

/-- The first round's minimum is the distance of the nearest. -/
theorem min0_apply : k1_pay5 v3 v4 v10 v11 v18 v19 (ix2 r 0) = d (p 0) := by
  pointwise [k1_pay5]
  simp only [hd]
  rw [bits_top, hp.min0]

/-- The first round's mask marks the nearest. -/
theorem sel0_apply (j : Fin 4096) : k1_pay6 v3 v4 v10 v11 v18 v19 (ix2 r j) = BitVec.ofBool (decide (j = p 0)) := by
  pointwise [k1_pay6]
  rw [hd, min0_apply v3 v4 v10 v11 v18 v19 r d p hp hd]
  exact congrArg BitVec.ofBool (decide_eq_decide.2 (hp.eq0 j))

/-- After the first round the nearest is masked. -/
theorem masked0_apply (j : Fin 4096) :
    k1_pay7 v3 v4 v10 v11 v18 v19 (ix2 r j) = if j = p 0 then (⊤ : EReal) else d j := by
  pointwise [k1_pay7]
  rw [sel0_apply v3 v4 v10 v11 v18 v19 r d p hp hd, bits_top, hd]
  by_cases h : j = p 0 <;> simp [h, Scalar.select]

/-- The second round's minimum is the distance of the second nearest. -/
theorem min1_apply : k1_pay8 v3 v4 v10 v11 v18 v19 (ix2 r 0) = d (p 1) := by
  pointwise [k1_pay8]
  simp only [masked0_apply v3 v4 v10 v11 v18 v19 r d p hp hd]
  rw [bits_top, hp.min1]

/-- The second round's mask marks the second nearest. -/
theorem sel1_apply (j : Fin 4096) : k1_pay9 v3 v4 v10 v11 v18 v19 (ix2 r j) = BitVec.ofBool (decide (j = p 1)) := by
  pointwise [k1_pay9]
  rw [masked0_apply v3 v4 v10 v11 v18 v19 r d p hp hd, min1_apply v3 v4 v10 v11 v18 v19 r d p hp hd]
  exact congrArg BitVec.ofBool (decide_eq_decide.2 (hp.eq1 j))

/-- After the second round the nearest two are masked. -/
theorem masked1_apply (j : Fin 4096) :
    k1_pay10 v3 v4 v10 v11 v18 v19 (ix2 r j) = if j = p 1 then (⊤ : EReal) else if j = p 0 then ⊤ else d j := by
  pointwise [k1_pay10]
  rw [sel1_apply v3 v4 v10 v11 v18 v19 r d p hp hd, bits_top, masked0_apply v3 v4 v10 v11 v18 v19 r d p hp hd]
  by_cases h : j = p 1 <;> simp [h, Scalar.select]

/-- The third round's minimum is the distance of the third nearest. -/
theorem min2_apply : k1_pay11 v3 v4 v10 v11 v18 v19 (ix1 r) = d (p 2) := by
  pointwise [k1_pay11]
  simp only [masked1_apply v3 v4 v10 v11 v18 v19 r d p hp hd]
  rw [bits_top, hp.min2]

end knn

/-- The first layer's row from the three distances, the masks and the blocks it multiplies. -/
theorem layer_apply (v27 : FVec Ideal S1024x1 .f32) (v29 : IVec S1024x4096 1) (v33 : FVec Ideal S1024x1 .f32)
    (v35 : IVec S1024x4096 1) (v37 : FVec Ideal S1024x4096 .f32) (v38 : FVec Ideal S1024 .f32)
    (v73 : Vec Ideal S4096x256 .f32) (v76 : Vec Ideal S1024x128 .f32) (v77 : Vec Ideal S128x256 .f32)
    (r : Fin 1024) (c : Fin 256) (d : Fin 4096 → EReal) (p : Fin 3 → Fin 4096) (hp : Nearest d p)
    (y : Fin 4096 → ℝ) (xf W : Fin 128 → ℝ)
    (h27 : v27 (ix2 r 0) = d (p 0)) (h29 : ∀ j, v29 (ix2 r j) = BitVec.ofBool (decide (j = p 0)))
    (h33 : v33 (ix2 r 0) = d (p 1)) (h35 : ∀ j, v35 (ix2 r j) = BitVec.ofBool (decide (j = p 1)))
    (h37 : ∀ j, v37 (ix2 r j) = if j = p 1 then (⊤ : EReal) else if j = p 0 then ⊤ else d j)
    (h38 : v38 (ix1 r) = d (p 2))
    (h73 : ∀ j, v73 (ix2 j c) = (y j : EReal)) (h76 : ∀ e, v76 (ix2 r e) = (xf e : EReal))
    (h77 : ∀ e, v77 (ix2 e c) = (W e : EReal)) :
    k1_pay12 v27 v29 v33 v35 v37 v38 v73 v76 v77 (ix2 r c)
      = (((∑ k, weight epsD (d (p k)).toReal / denom (fun k => weight epsD (d (p k)).toReal) * y (p k)) + ∑ e, xf e * W e : ℝ) : EReal) := by
  pointwise [k1_pay12]
  rw [h27, h33, h38, bits_epsD]
  simp only [h29, h35, h37, h73, h76, h77, hp.eq2, hp.weight_eq]
  have hD : denom (fun k => weight epsD (d (p k)).toReal) ≠ 0 :=
    (add_pos (add_pos (weight_pos epsD_pos _) (weight_pos epsD_pos _)) (weight_pos epsD_pos _)).ne'
  have hs : ∀ (b : Prop) [Decidable b] (t : ℝ),
      Scalar.select (BitVec.ofBool (decide b)) (t : EReal) 0 = ((if b then t else 0 : ℝ) : EReal) := fun b _ t => by
    by_cases h : b <;> simp [h, Scalar.select]
  have hi : ∀ (b : Prop) [Decidable b] (t : ℝ), (if b then (t : EReal) else 0) = ((if b then t else 0 : ℝ) : EReal) :=
    fun b _ t => by by_cases h : b <;> simp [h]
  have hden : ((weight epsD (d (p 0)).toReal : EReal) + (weight epsD (d (p 1)).toReal : EReal)) + (weight epsD (d (p 2)).toReal : EReal)
      = (denom (fun k => weight epsD (d (p k)).toReal) : EReal) := by simp only [← EReal.coe_add]; rfl
  rw [hden]
  simp only [div_real _ hD, hs, hi, ← EReal.coe_add, ← EReal.coe_mul, sum_coe]
  rw [← sum_select p (fun k => weight epsD (d (p k)).toReal / denom (fun k => weight epsD (d (p k)).toReal)) y]

/-- A running column sum gains the block's rows. -/
theorem rowsum1_apply (v79 : FVec Ideal S1024x256 .f32) (v87 : Vec Ideal S1x256 .f32) (c : Fin 256) :
    k1_pay1 v79 v87 (ix2 0 c) = v87 (ix2 0 c) + ∑ i, v79 (ix2 i c) := by
  pointwise [k1_pay1]

/-- A running column sum of squares gains the block's rows' squares. -/
theorem rowsq1_apply (v79 : FVec Ideal S1024x256 .f32) (v91 : Vec Ideal S1x256 .f32) (c : Fin 256) :
    k1_pay2 v79 v91 (ix2 0 c) = v91 (ix2 0 c) + ∑ i, v79 (ix2 i c) * v79 (ix2 i c) := by
  pointwise [k1_pay2]

/-! ## The second layer and the last normalisation -/

/-- One element of the second layer's matrix product: the normalised, scaled and rectified row against the weights. -/
theorem layer2_apply (v0 : Vec Ideal S1x256 .f32) (v4 : Vec Ideal S1x256 .f32) (v13 : Vec Ideal S1024x256 .bf16)
    (v18 : Vec Ideal S1x256 .f32) (v23 : Vec Ideal S1x256 .f32) (v29 : Vec Ideal S256x256 .f32) (i : Fin 1024) (c : Fin 256)
    (H : Fin 16384 → Fin 256 → ℝ) (q : Fin 16384) (g b W : Fin 256 → ℝ)
    (h0 : ∀ e, v0 (ix2 0 e) = ((∑ r, H r e : ℝ) : EReal)) (h4 : ∀ e, v4 (ix2 0 e) = ((∑ r, H r e * H r e : ℝ) : EReal))
    (h13 : ∀ e, v13 (ix2 i e) = (H q e : EReal)) (h18 : ∀ e, v18 (ix2 0 e) = (g e : EReal))
    (h23 : ∀ e, v23 (ix2 0 e) = (b e : EReal)) (h29 : ∀ e, v29 (ix2 e c) = (W e : EReal)) :
    k2_pay3 v0 v4 v13 v18 v23 v29 (ix2 i c)
      = ((∑ e, max (normed epsB (fun r => H r e) q * g e + b e) 0 * W e : ℝ) : EReal) := by
  pointwise [k2_pay3]
  rw [← sum_coe]
  refine Finset.sum_congr rfl fun e _ => ?_
  rw [h13, bits_epsB, norm_of_moments epsB_pos (fun r => H r e) q _ _ _ _ _ bits_inv (h0 e) (h4 e), h18, h23, h29,
    ← EReal.coe_mul, ← EReal.coe_add, show (0 : EReal) = ((0 : ℝ) : EReal) from rfl, max_real, ← EReal.coe_mul]

/-- The second layer's rows are stored as they are computed. -/
theorem stored2_apply (v0 : Vec Ideal S1x256 .f32) (v4 : Vec Ideal S1x256 .f32) (v13 : Vec Ideal S1024x256 .bf16)
    (v18 : Vec Ideal S1x256 .f32) (v23 : Vec Ideal S1x256 .f32) (v29 : Vec Ideal S256x256 .f32) (i : Fin 1024) (c : Fin 256) :
    k2_pay4 v0 v4 v13 v18 v23 v29 (ix2 i c) = k2_pay3 v0 v4 v13 v18 v23 v29 (ix2 i c) := by
  pointwise [k2_pay4]

/-- A running column sum of the second layer gains the block's rows. -/
theorem rowsum2_apply (v30 : FVec Ideal S1024x256 .f32) (v36 : Vec Ideal S1x256 .f32) (c : Fin 256) :
    k2_pay1 v30 v36 (ix2 0 c) = v36 (ix2 0 c) + ∑ i, v30 (ix2 i c) := by
  pointwise [k2_pay1]

/-- A running column sum of squares of the second layer gains the block's rows' squares. -/
theorem rowsq2_apply (v30 : FVec Ideal S1024x256 .f32) (v42 : Vec Ideal S1x256 .f32) (c : Fin 256) :
    k2_pay2 v30 v42 (ix2 0 c) = v42 (ix2 0 c) + ∑ i, v30 (ix2 i c) * v30 (ix2 i c) := by
  pointwise [k2_pay2]

/-- One element of the result: normalised, scaled and rectified. The scale and the shift may be any extended reals. -/
theorem last_apply (v0 : Vec Ideal S1x256 .f32) (v4 : Vec Ideal S1x256 .f32) (v13 : Vec Ideal S1024x256 .bf16)
    (v18 : Vec Ideal S1x256 .f32) (v23 : Vec Ideal S1x256 .f32) (i : Fin 1024) (c : Fin 256)
    (H : Fin 16384 → ℝ) (q : Fin 16384)
    (h0 : v0 (ix2 0 c) = ((∑ r, H r : ℝ) : EReal)) (h4 : v4 (ix2 0 c) = ((∑ r, H r * H r : ℝ) : EReal))
    (h13 : v13 (ix2 i c) = (H q : EReal)) :
    k3_pay1 v0 v4 v13 v18 v23 (ix2 i c) = max ((normed epsB H q : EReal) * v18 (ix2 0 c) + v23 (ix2 0 c)) 0 := by
  pointwise [k3_pay1]
  rw [h13, bits_epsB, norm_of_moments epsB_pos H q _ _ _ _ _ bits_inv h0 h4]

end Cert.KernelIdeal.Body
-- ==== Proof.Rows.lean ====
/-
  Reading one row of the statistics block, and one column or row of a coordinate block: where a rectangle's element
  lies, what a load of the rectangle reads there, and which of several row stores an element keeps.
-/
module

public import proofs.«01_k».proof.Proof.Gen.KernelIdeal.Skeleton
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Idealize.ShloMosaic

/-- An element of a one-row rectangle of the statistics block lies on that row. -/
theorem emb_row0 (inb) (c : Fin 256) : (Rect.unit (s := S8x256) ![0, 0] ![1, 256] inb).emb (ix2 0 c) = ix2 0 c := by
  funext a; apply Fin.ext
  rw [ValueKit.rect_emb_unit_val]
  fin_cases a <;> simp [ix2]

/-- The window on the second row of eight sends a column to that row. -/
theorem emb_row1 (inb) (c : Fin 256) : (Rect.unit (s := S8x256) ![1, 0] ![1, 256] inb).emb (ix2 0 c) = ix2 1 c := by
  funext a; apply Fin.ext
  rw [ValueKit.rect_emb_unit_val]
  fin_cases a <;> simp [ix2]

/-- The first row is outside the second row's rectangle. -/
theorem not_mem_row1 (inb) (c : Fin 256) : (ix2 0 c : S8x256.Idx) ∉ (Rect.unit (s := S8x256) ![1, 0] ![1, 256] inb).set := by
  rw [Rect.mem_set_unit]
  intro h
  exact absurd (h 0).1 (by simp [ix2])

/-- A load of a row reads that row. -/
theorem ld_row0 (x : Vec Ideal S8x256 .f32) (inb) (c : Fin 256) :
    View.ld x (Rect.unit (s := S8x256) ![0, 0] ![1, 256] inb) (ix2 0 c) = x (ix2 0 c) := congrArg x (emb_row0 inb c)

/-- What that window reads. -/
theorem ld_row1 (x : Vec Ideal S8x256 .f32) (inb) (c : Fin 256) :
    View.ld x (Rect.unit (s := S8x256) ![1, 0] ![1, 256] inb) (ix2 0 c) = x (ix2 1 c) := congrArg x (emb_row1 inb c)

section stores

variable (inb1 inb0) (w1 w0 : Vec Ideal S1x256 .f32) (L : List (View.Piece (Elt Ideal) S8x256 .f32)) (c : Fin 256)

/-- After the second row's store and the first row's store before it, the first row holds the first row's. -/
theorem canon_row0 : View.canon (⟨Rect.unit (s := S8x256) ![1, 0] ![1, 256] inb1, w1⟩
    :: ⟨Rect.unit (s := S8x256) ![0, 0] ![1, 256] inb0, w0⟩ :: L) (ix2 0 c) = w0 (ix2 0 c) := by
  have h := View.canon_cons_emb (Rect.unit (s := S8x256) ![0, 0] ![1, 256] inb0) w0 L (ix2 0 c)
  rw [emb_row0] at h
  rw [View.canon_cons_of_not_mem]
  · exact h
  · exact not_mem_row1 inb1 c

/-- … and the second row the second's. -/
theorem canon_row1 : View.canon (⟨Rect.unit (s := S8x256) ![1, 0] ![1, 256] inb1, w1⟩ :: L) (ix2 1 c) = w1 (ix2 0 c) := by
  have h := View.canon_cons_emb (Rect.unit (s := S8x256) ![1, 0] ![1, 256] inb1) w1 L (ix2 0 c)
  rw [emb_row1] at h
  exact h

variable {κ : Kind} {sp : Space} (v : View sig κ sp S8x256 .f32) (f : v.ty.Contents (Elt Ideal))

/-- The same, read back over whatever the buffer held. -/
theorem read_row0 : v.read (Elt Ideal) (v.writes (Elt Ideal) f (⟨Rect.unit (s := S8x256) ![1, 0] ![1, 256] inb1, w1⟩
    :: ⟨Rect.unit (s := S8x256) ![0, 0] ![1, 256] inb0, w0⟩ :: L)) (ix2 0 c) = w0 (ix2 0 c) := by
  have h := View.read_writes_cons_emb v f (Rect.unit (s := S8x256) ![0, 0] ![1, 256] inb0) w0 L (ix2 0 c)
  rw [emb_row0] at h
  rw [View.read_writes_cons_miss]
  · exact h
  · exact not_mem_row1 inb1 c

/-- After a store to the second row, that row holds what was stored. -/
theorem read_row1 : v.read (Elt Ideal) (v.writes (Elt Ideal) f
    (⟨Rect.unit (s := S8x256) ![1, 0] ![1, 256] inb1, w1⟩ :: L)) (ix2 1 c) = w1 (ix2 0 c) := by
  have h := View.read_writes_cons_emb v f (Rect.unit (s := S8x256) ![1, 0] ![1, 256] inb1) w1 L (ix2 0 c)
  rw [emb_row1] at h
  exact h

end stores

/-! ## The coordinates -/

/-- A load of one coordinate's column of the fine points. -/
theorem ld_fine (x : Vec Ideal S1024x3 .f32) (e : Fin 3) (inb) (i : Fin 1024) :
    View.ld x (Rect.unit (s := S1024x3) ![0, e.val] ![1024, 1] inb) (ix2 i 0) = x (ix2 i e) := by
  refine congrArg x (funext fun a => Fin.ext ((ValueKit.rect_emb_unit_val _ _ inb _ a).trans ?_))
  fin_cases a <;> simp [ix2]

/-- A load of one coordinate's row of the coarse points. -/
theorem ld_coarse (x : Vec Ideal S3x4096 .f32) (e : Fin 3) (inb) (j : Fin 4096) :
    View.ld x (Rect.unit (s := S3x4096) ![e.val, 0] ![1, 4096] inb) (ix2 0 j) = x (ix2 e j) := by
  refine congrArg x (funext fun a => Fin.ext ((ValueKit.rect_emb_unit_val _ _ inb _ a).trans ?_))
  fin_cases a <;> simp [ix2]

end Cert.KernelIdeal.Body
-- ==== Proof.Value1.lean ====
/-
  The second region's arrays: the first layer's rows block by block, and the statistics block's two running sums, by
  induction over the grid points.
-/
module

public import proofs.«01_k».proof.Proof.Region1
public import proofs.«01_k».proof.Proof.Body
public import proofs.«01_k».proof.Proof.Rows
public import Idealize.ShloMosaic.Lib.Pipeline.ReadBack
public import Idealize.ShloMosaic.Lib.Pipeline.ValueKit

@[expose] public section

set_option maxRecDepth 16384

noncomputable section

namespace Cert.KernelIdeal.Body

open Cert.KernelIdeal Cert.KernelIdeal.Gen Cert.Knn Idealize.ShloMosaic Idealize.ShloMosaic.TcCoe Idealize.SL.Sem
open Cert.KernelIdeal.Run

/-! ## One point's rows -/

section block

variable (x0 : Vec Ideal S1024x3 .f32) (x1 : Vec Ideal S3x4096 .f32) (x2 : Vec Ideal S4096x256 .f32)
  (x3 : Vec Ideal S128x256 .f32) (x4 : Vec Ideal S1024x128 .f32)

/-- The fine points' first coordinate. -/
abbrev fine0 : Vec Ideal S1024x1 .f32 := View.ld x0 (Rect.unit ![0, 0] ![1024, 1] inb_S1024x3_S1024x1_0_0)
/-- The fine points' second coordinate. -/
abbrev fine1 : Vec Ideal S1024x1 .f32 := View.ld x0 (Rect.unit ![0, 1] ![1024, 1] inb_S1024x3_S1024x1_0_1)
/-- The fine points' third coordinate. -/
abbrev fine2 : Vec Ideal S1024x1 .f32 := View.ld x0 (Rect.unit ![0, 2] ![1024, 1] inb_S1024x3_S1024x1_0_2)
/-- The coarse points' first coordinate. -/
abbrev coarse0 : Vec Ideal S1x4096 .f32 := View.ld x1 (Rect.unit ![0, 0] ![1, 4096] inb_S3x4096_S1x4096_0_0)
/-- The coarse points' second coordinate. -/
abbrev coarse1 : Vec Ideal S1x4096 .f32 := View.ld x1 (Rect.unit ![1, 0] ![1, 4096] inb_S3x4096_S1x4096_1_0)
/-- The coarse points' third coordinate. -/
abbrev coarse2 : Vec Ideal S1x4096 .f32 := View.ld x1 (Rect.unit ![2, 0] ![1, 4096] inb_S3x4096_S1x4096_2_0)

/-- The first layer's rows of one block. -/
def knnBlock : FVec Ideal S1024x256 .f32 :=
  k1_pay12 (k1_pay5 (fine0 x0) (coarse0 x1) (fine1 x0) (coarse1 x1) (fine2 x0) (coarse2 x1))
    (k1_pay6 (fine0 x0) (coarse0 x1) (fine1 x0) (coarse1 x1) (fine2 x0) (coarse2 x1))
    (k1_pay8 (fine0 x0) (coarse0 x1) (fine1 x0) (coarse1 x1) (fine2 x0) (coarse2 x1))
    (k1_pay9 (fine0 x0) (coarse0 x1) (fine1 x0) (coarse1 x1) (fine2 x0) (coarse2 x1))
    (k1_pay10 (fine0 x0) (coarse0 x1) (fine1 x0) (coarse1 x1) (fine2 x0) (coarse2 x1))
    (k1_pay11 (fine0 x0) (coarse0 x1) (fine1 x0) (coarse1 x1) (fine2 x0) (coarse2 x1)) x2 x4 x3

/-- A row of the block is the first layer's row of the fine point it reads. -/
theorem knnBlock_apply (D : Data) (hD : D.Listed) (q : Fin 16384) (i : Fin 1024) (c : Fin 256)
    (h0 : ∀ e, x0 (ix2 i e) = D.pf q e) (h1 : ∀ e j, x1 (ix2 e j) = D.pc j e)
    (h2 : ∀ j, x2 (ix2 j c) = (D.y j c : EReal)) (h3 : ∀ e, x3 (ix2 e c) = (D.W1 (Data.low e) c : EReal))
    (h4 : ∀ e, x4 (ix2 i e) = (D.xf q e : EReal)) :
    knnBlock x0 x1 x2 x3 x4 (ix2 i c) = (D.h1 q c : EReal) := by
  have hd : ∀ j, k1_pay4 (fine0 x0) (coarse0 x1) (fine1 x0) (coarse1 x1) (fine2 x0) (coarse2 x1) (ix2 i j)
      = D.dist q j := fun j =>
    dist_apply _ _ _ _ _ _ i j (D.pf q) (D.pc j) ((ld_fine x0 0 _ i).trans (h0 0)) ((ld_coarse x1 0 _ j).trans (h1 0 j))
      ((ld_fine x0 1 _ i).trans (h0 1)) ((ld_coarse x1 1 _ j).trans (h1 1 j))
      ((ld_fine x0 2 _ i).trans (h0 2)) ((ld_coarse x1 2 _ j).trans (h1 2 j))
  exact layer_apply _ _ _ _ _ _ x2 x4 x3 i c (D.dist q) (D.p q) (hD q) (fun j => D.y j c) (D.xf q)
    (fun e => D.W1 (Data.low e) c)
    (min0_apply _ _ _ _ _ _ i _ _ (hD q) hd) (sel0_apply _ _ _ _ _ _ i _ _ (hD q) hd)
    (min1_apply _ _ _ _ _ _ i _ _ (hD q) hd) (sel1_apply _ _ _ _ _ _ i _ _ (hD q) hd)
    (masked1_apply _ _ _ _ _ _ i _ _ (hD q) hd) (min2_apply _ _ _ _ _ _ i _ _ (hD q) hd) h2 h4 h3

end block

/-! ## One point's stores -/

variable (V : (c : Dev nD) → (b : Ref sig .tc) → Buf (Elt Ideal) ((c : Thread nD τ).loc b)) (c : Dev nD)

/-- The first layer's rows of point `t`. -/
def hAt (t : Fin cfg1.N) : FVec Ideal S1024x256 .f32 :=
  knnBlock (iblk1 V c 0 t) (iblk1 V c 1 t) (iblk1 V c 2 t) (iblk1 V c 3 t) (iblk1 V c 4 t)

/-- What point `t` stores of the first layer are its rows. -/
theorem rows_at (t : Fin cfg1.N) (i : Fin 1024) (j : Fin 256) :
    (outsAt1 V c t.val t.isLt).1 (ix2 i j) = hAt V c t (ix2 i j) := by
  by_cases h0 : t.val % 16 = 0
  · rw [outsAt1_A V c t h0]
    frame_out
    unfold k1_pay13
    pointwise []
    rfl
  · rw [outsAt1_B V c t h0]
    frame_out
    unfold k1_pay13
    pointwise []
    rfl

/-- At the first point the two sums are the block's. -/
theorem sums_first (t : Fin cfg1.N) (h0 : t.val % 16 = 0) (j : Fin 256) :
    (outsAt1 V c t.val t.isLt).2 (ix2 0 j) = ∑ i, hAt V c t (ix2 i j)
      ∧ (outsAt1 V c t.val t.isLt).2 (ix2 1 j) = ∑ i, hAt V c t (ix2 i j) * hAt V c t (ix2 i j) := by
  have hz : ∀ k : Fin 8, (k1_pay3 (F := Ideal)) (ix2 k j) = 0 := fun k => by pointwise [k1_pay3]
  rw [outsAt1_A V c t h0]
  frame_out
  simp (disch := decide) only [↓ View.readCov_skip, ↓ View.readCov_fill]
  constructor
  · refine (canon_row0 _ _ _ _ _ j).trans ((rowsum1_apply _ _ j).trans ?_)
    rw [ld_row0, hz, zero_add]; rfl
  · refine (canon_row1 _ _ _ j).trans ((rowsq1_apply _ _ j).trans ?_)
    rw [ld_row1, hz, zero_add]; rfl

/-- At a later point the two sums gain the block's. -/
theorem sums_later (t : Fin cfg1.N) (h0 : ¬t.val % 16 = 0) (j : Fin 256) :
    (outsAt1 V c t.val t.isLt).2 (ix2 0 j)
        = (outsAt1 V c (t.val - 1) (by have := t.isLt; omega)).2 (ix2 0 j) + ∑ i, hAt V c t (ix2 i j)
      ∧ (outsAt1 V c t.val t.isLt).2 (ix2 1 j)
        = (outsAt1 V c (t.val - 1) (by have := t.isLt; omega)).2 (ix2 1 j)
          + ∑ i, hAt V c t (ix2 i j) * hAt V c t (ix2 i j) := by
  rw [outsAt1_B V c t h0]
  frame_out
  constructor
  · refine (read_row0 _ _ _ _ _ j _ _).trans ((rowsum1_apply _ _ j).trans ?_)
    rw [ld_row0]; rfl
  · refine (read_row1 _ _ _ j _ _).trans ((rowsq1_apply _ _ j).trans ?_)
    rw [ld_row1]; rfl

/-! ## The region's arrays -/

/-- Which block of window 0 is taken at a point. -/
theorem e1_0 : ∀ t : Fin cfg1.N, win1_0.index t = ![t.val, 0] := by decide +kernel
/-- Which block of window 1 is taken at a point. -/
theorem e1_1 : ∀ t : Fin cfg1.N, win1_1.index t = ![0, 0] := by decide +kernel
/-- Which block of window 2 is taken at a point. -/
theorem e1_2 : ∀ t : Fin cfg1.N, win1_2.index t = ![0, 0] := by decide +kernel
/-- Which block of window 3 is taken at a point. -/
theorem e1_3 : ∀ t : Fin cfg1.N, win1_3.index t = ![2, 0] := by decide +kernel
/-- Which block of window 4 is taken at a point. -/
theorem e1_4 : ∀ t : Fin cfg1.N, win1_4.index t = ![t.val, 0] := by decide +kernel
/-- Which block of window 5 is taken at a point. -/
theorem e1_5 : ∀ t : Fin cfg1.N, win1_5.index t = ![t.val, 0] := by decide +kernel

section arrays

variable (D : Data) (hD : D.Listed)
  (hpf : ∀ r e, (V c main_arg4 : Vec Ideal S16384x3 .f32) (ix2 r e) = D.pf r e)
  (hpc : ∀ e j, (V c main_v0 : Vec Ideal S3x4096 .f32) (ix2 e j) = D.pc j e)
  (hy : ∀ j k, (V c main_v5 : Vec Ideal S4096x256 .f32) (ix2 j k) = (D.y j k : EReal))
  (hW : ∀ e k, (V c main_arg6 : Vec Ideal S384x256 .f32) (ix2 e k) = (D.W1 e k : EReal))
  (hxf : ∀ r e, (V c main_arg3 : Vec Ideal S16384x128 .f32) (ix2 r e) = (D.xf r e : EReal))

include hD hpf hpc hy hW hxf

/-- Point `t`'s rows are the first layer's rows of block `t`. -/
theorem hAt_apply (t : Fin cfg1.N) (i : Fin 1024) (j : Fin 256) :
    hAt V c t (ix2 i j) = (D.h1 (row t.val i) j : EReal) := by
  have h := row_val t.isLt i
  refine knnBlock_apply _ _ _ _ _ D hD (row t.val i) i j (fun e => ?_) (fun e k => ?_) (fun k => ?_) (fun e => ?_) (fun e => ?_)
  · rw [← hpf]; blk_ext [iblk1, e1_0 t, h]
  · rw [← hpc]; blk_ext [iblk1, e1_1 t]
  · rw [← hy]; blk_ext [iblk1, e1_2 t]
  · rw [← hW]; blk_ext [iblk1, e1_3 t, Data.low]
  · rw [← hxf]; blk_ext [iblk1, e1_4 t, h]

/-- A block's column sum. -/
theorem hAt_sum (t : Fin cfg1.N) (j : Fin 256) :
    ∑ i, hAt V c t (ix2 i j) = ((∑ i, D.h1 (row t.val i) j : ℝ) : EReal) := by
  simp only [hAt_apply V c D hD hpf hpc hy hW hxf]
  exact sum_coe _

/-- A block's column sum of squares. -/
theorem hAt_sq (t : Fin cfg1.N) (j : Fin 256) : ∑ i, hAt V c t (ix2 i j) * hAt V c t (ix2 i j)
    = ((∑ i, D.h1 (row t.val i) j * D.h1 (row t.val i) j : ℝ) : EReal) := by
  simp only [hAt_apply V c D hD hpf hpc hy hW hxf, ← EReal.coe_mul]
  exact sum_coe _

/-- After point `n` the first sum is the one over the blocks so far. -/
theorem sum_upto (j : Fin 256) (n : ℕ) (hn : n < cfg1.N) :
    (outsAt1 V c n hn).2 (ix2 0 j) = (upto (fun r => D.h1 r j) (n + 1) : EReal) :=
  eq_upto_of_steps (fun n hn => (outsAt1 V c n hn).2 (ix2 0 j)) _
    ((sums_first V c ⟨0, by decide⟩ rfl j).1.trans (hAt_sum V c D hD hpf hpc hy hW hxf _ j))
    (fun n hn => (sums_later V c ⟨n + 1, hn⟩ (by show ¬(n + 1) % 16 = 0; omega) j).1.trans
      (congrArg _ (hAt_sum V c D hD hpf hpc hy hW hxf _ j))) n hn

/-- After point `n` the second sum is the one over the blocks so far. -/
theorem sq_upto (j : Fin 256) (n : ℕ) (hn : n < cfg1.N) :
    (outsAt1 V c n hn).2 (ix2 1 j) = (upto (fun r => D.h1 r j * D.h1 r j) (n + 1) : EReal) :=
  eq_upto_of_steps (fun n hn => (outsAt1 V c n hn).2 (ix2 1 j)) _
    ((sums_first V c ⟨0, by decide⟩ rfl j).2.trans (hAt_sq V c D hD hpf hpc hy hW hxf _ j))
    (fun n hn => (sums_later V c ⟨n + 1, hn⟩ (by show ¬(n + 1) % 16 = 0; omega) j).2.trans
      (congrArg _ (hAt_sq V c D hD hpf hpc hy hW hxf _ j))) n hn

/-- The region leaves the first layer in its fifth window's array. -/
theorem h1_array (r : Fin 16384) (j : Fin 256) :
    ((dat1 V c).arrAt 5 cfg1.N : Vec Ideal S16384x256 .bf16) (ix2 r j) = (D.h1 r j : EReal) := by
  have e : (dat1 V c).arrAt 5 cfg1.N = (fun x => (D.h1 (x 0) (x 1) : EReal) : Vec Ideal S16384x256 .bf16) := by
    refine (dat1 V c).arrAt_eq_of_covers 5 _ (by decide +kernel) fun t hf y => ?_
    have h := row_val t.isLt (y 0)
    blk_simp [e1_5 t]
    rw [after1_5]
    have hx : y = ix2 (y 0) (y 1) := by funext a; match a with | ⟨0, _⟩ => rfl | ⟨1, _⟩ => rfl
    have h1 : (outsAt1 V c t.val t.isLt).1 (ix2 (y 0) (y 1)) = (D.h1 (row t.val (y 0)) (y 1) : EReal) :=
      (rows_at V c t (y 0) (y 1)).trans (hAt_apply V c D hD hpf hpc hy hW hxf t (y 0) (y 1))
    refine (congrArg (outsAt1 V c t.val t.isLt).1 hx).trans (h1.trans ?_)
    refine congrArg Real.toEReal (congrArg₂ D.h1 ?_ ?_)
    · refine Fin.ext ?_
      blk_simp [e1_5 t, h]
      omega
    · refine Fin.ext ?_
      blk_simp [e1_5 t]
  exact congrFun e (ix2 r j)

/-- The region leaves the column sums and the column sums of squares in its sixth window's array. -/
theorem st1_array (j : Fin 256) :
    ((dat1 V c).arrAt 6 cfg1.N : Vec Ideal S8x256 .f32) (ix2 0 j) = ((∑ r, D.h1 r j : ℝ) : EReal)
      ∧ ((dat1 V c).arrAt 6 cfg1.N : Vec Ideal S8x256 .f32) (ix2 1 j) = ((∑ r, D.h1 r j * D.h1 r j : ℝ) : EReal) := by
  have e : (dat1 V c).arrAt 6 cfg1.N = (outsAt1 V c 15 (by decide)).2 := by
    refine (dat1 V c).arrAt_eq_of_after_last 6 t1_15 (by decide +kernel) _ fun j => ?_
    blk_simp
    rw [after1_6]
    rfl
  rw [e, ← upto_all, ← upto_all]
  exact ⟨sum_upto V c D hD hpf hpc hy hW hxf j 15 (by decide), sq_upto V c D hD hpf hpc hy hW hxf j 15 (by decide)⟩

end arrays

end Cert.KernelIdeal.Body
-- ==== Proof.Value2.lean ====
/-
  The third region's arrays: the second layer's rows block by block, and the statistics block's two running sums, by
  induction over the grid points.
-/
module

public import proofs.«01_k».proof.Proof.Region2
public import proofs.«01_k».proof.Proof.Body
public import proofs.«01_k».proof.Proof.Rows
public import Idealize.ShloMosaic.Lib.Pipeline.ReadBack
public import Idealize.ShloMosaic.Lib.Pipeline.ValueKit

@[expose] public section

set_option maxRecDepth 16384

noncomputable section

namespace Cert.KernelIdeal.Body

open Cert.KernelIdeal Cert.KernelIdeal.Gen Cert.Knn Idealize.ShloMosaic Idealize.ShloMosaic.TcCoe Idealize.SL.Sem
open Cert.KernelIdeal.Run

/-! ## One point's stores -/

variable (V : (c : Dev nD) → (b : Ref sig .tc) → Buf (Elt Ideal) ((c : Thread nD τ).loc b)) (c : Dev nD)

/-- The second layer's rows of point `t`. -/
def gAt (t : Fin cfg2.N) : FVec Ideal S1024x256 .f32 :=
  k2_pay3 (View.ld (iblk2 V c 1 t) (Rect.unit ![0, 0] ![1, 256] inb_S8x256_S1x256_0_0))
    (View.ld (iblk2 V c 1 t) (Rect.unit ![1, 0] ![1, 256] inb_S8x256_S1x256_1_0))
    (iblk2 V c 0 t) (iblk2 V c 2 t) (iblk2 V c 3 t) (iblk2 V c 4 t)

/-- What point `t` stores of the second layer are its rows. -/
theorem rows2_at (t : Fin cfg2.N) (i : Fin 1024) (j : Fin 256) :
    (outsAt2 V c t.val t.isLt).1 (ix2 i j) = gAt V c t (ix2 i j) := by
  by_cases h0 : t.val % 16 = 0
  · rw [outsAt2_A V c t h0]
    frame_out
    exact stored2_apply _ _ _ _ _ _ i j
  · rw [outsAt2_B V c t h0]
    frame_out
    exact stored2_apply _ _ _ _ _ _ i j

/-- At the first point the two sums are the block's. -/
theorem sums2_first (t : Fin cfg2.N) (h0 : t.val % 16 = 0) (j : Fin 256) :
    (outsAt2 V c t.val t.isLt).2 (ix2 0 j) = ∑ i, gAt V c t (ix2 i j)
      ∧ (outsAt2 V c t.val t.isLt).2 (ix2 1 j) = ∑ i, gAt V c t (ix2 i j) * gAt V c t (ix2 i j) := by
  have hz : ∀ k : Fin 8, (k2_pay5 (F := Ideal)) (ix2 k j) = 0 := fun k => by pointwise [k2_pay5]
  rw [outsAt2_A V c t h0]
  frame_out
  simp (disch := decide) only [↓ View.readCov_skip, ↓ View.readCov_fill]
  constructor
  · refine (canon_row0 _ _ _ _ _ j).trans ((rowsum2_apply _ _ j).trans ?_)
    rw [ld_row0, hz, zero_add]; rfl
  · refine (canon_row1 _ _ _ j).trans ((rowsq2_apply _ _ j).trans ?_)
    rw [ld_row1, hz, zero_add]; rfl

/-- At a later point the two sums gain the block's. -/
theorem sums2_later (t : Fin cfg2.N) (h0 : ¬t.val % 16 = 0) (j : Fin 256) :
    (outsAt2 V c t.val t.isLt).2 (ix2 0 j)
        = (outsAt2 V c (t.val - 1) (by have := t.isLt; omega)).2 (ix2 0 j) + ∑ i, gAt V c t (ix2 i j)
      ∧ (outsAt2 V c t.val t.isLt).2 (ix2 1 j)
        = (outsAt2 V c (t.val - 1) (by have := t.isLt; omega)).2 (ix2 1 j)
          + ∑ i, gAt V c t (ix2 i j) * gAt V c t (ix2 i j) := by
  rw [outsAt2_B V c t h0]
  frame_out
  constructor
  · refine (read_row0 _ _ _ _ _ j _ _).trans ((rowsum2_apply _ _ j).trans ?_)
    rw [ld_row0]; rfl
  · refine (read_row1 _ _ _ j _ _).trans ((rowsq2_apply _ _ j).trans ?_)
    rw [ld_row1]; rfl

/-! ## The region's arrays -/

/-- Which block of window 0 is taken at a point. -/
theorem e2_0 : ∀ t : Fin cfg2.N, win2_0.index t = ![t.val, 0] := by decide +kernel
/-- Which block of window 1 is taken at a point. -/
theorem e2_1 : ∀ t : Fin cfg2.N, win2_1.index t = ![0, 0] := by decide +kernel
/-- Which block of window 2 is taken at a point. -/
theorem e2_2 : ∀ t : Fin cfg2.N, win2_2.index t = ![0, 0] := by decide +kernel
/-- Which block of window 3 is taken at a point. -/
theorem e2_3 : ∀ t : Fin cfg2.N, win2_3.index t = ![0, 0] := by decide +kernel
/-- Which block of window 4 is taken at a point. -/
theorem e2_4 : ∀ t : Fin cfg2.N, win2_4.index t = ![0, 0] := by decide +kernel
/-- Which block of window 5 is taken at a point. -/
theorem e2_5 : ∀ t : Fin cfg2.N, win2_5.index t = ![t.val, 0] := by decide +kernel

section arrays

variable (D : Data)
  (hh : ∀ r e, (V c main_v6_0 : Vec Ideal S16384x256 .bf16) (ix2 r e) = (D.h1 r e : EReal))
  (hs : ∀ e, (V c main_v6_1 : Vec Ideal S8x256 .f32) (ix2 0 e) = ((∑ r, D.h1 r e : ℝ) : EReal))
  (hq : ∀ e, (V c main_v6_1 : Vec Ideal S8x256 .f32) (ix2 1 e) = ((∑ r, D.h1 r e * D.h1 r e : ℝ) : EReal))
  (hg : ∀ e, (V c main_v1 : Vec Ideal S1x256 .f32) (ix2 0 e) = (D.g1 e : EReal))
  (hb : ∀ e, (V c main_v2 : Vec Ideal S1x256 .f32) (ix2 0 e) = (D.b1 e : EReal))
  (hW : ∀ e k, (V c main_arg9 : Vec Ideal S256x256 .f32) (ix2 e k) = (D.W2 e k : EReal))

include hh hs hq hg hb hW

/-- Point `t`'s rows are the second layer's rows of block `t`. -/
theorem gAt_apply (t : Fin cfg2.N) (i : Fin 1024) (j : Fin 256) :
    gAt V c t (ix2 i j) = (D.h2 (row t.val i) j : EReal) := by
  have h := row_val t.isLt i
  refine layer2_apply _ _ _ _ _ _ i j D.h1 (row t.val i) D.g1 D.b1 (fun e => D.W2 e j)
    (fun e => ?_) (fun e => ?_) (fun e => ?_) (fun e => ?_) (fun e => ?_) (fun e => ?_)
  · rw [ld_row0, ← hs]; blk_ext [iblk2, e2_1 t]
  · rw [ld_row1, ← hq]; blk_ext [iblk2, e2_1 t]
  · rw [← hh]; blk_ext [iblk2, e2_0 t, h]
  · rw [← hg]; blk_ext [iblk2, e2_2 t]
  · rw [← hb]; blk_ext [iblk2, e2_3 t]
  · rw [← hW]; blk_ext [iblk2, e2_4 t]

/-- A block's column sum. -/
theorem gAt_sum (t : Fin cfg2.N) (j : Fin 256) :
    ∑ i, gAt V c t (ix2 i j) = ((∑ i, D.h2 (row t.val i) j : ℝ) : EReal) := by
  simp only [gAt_apply V c D hh hs hq hg hb hW]
  exact sum_coe _

/-- A block's column sum of squares. -/
theorem gAt_sq (t : Fin cfg2.N) (j : Fin 256) : ∑ i, gAt V c t (ix2 i j) * gAt V c t (ix2 i j)
    = ((∑ i, D.h2 (row t.val i) j * D.h2 (row t.val i) j : ℝ) : EReal) := by
  simp only [gAt_apply V c D hh hs hq hg hb hW, ← EReal.coe_mul]
  exact sum_coe _

/-- After point `n` the first sum is the one over the blocks so far. -/
theorem sum2_upto (j : Fin 256) (n : ℕ) (hn : n < cfg2.N) :
    (outsAt2 V c n hn).2 (ix2 0 j) = (upto (fun r => D.h2 r j) (n + 1) : EReal) :=
  eq_upto_of_steps (fun n hn => (outsAt2 V c n hn).2 (ix2 0 j)) _
    ((sums2_first V c ⟨0, by decide⟩ rfl j).1.trans (gAt_sum V c D hh hs hq hg hb hW _ j))
    (fun n hn => (sums2_later V c ⟨n + 1, hn⟩ (by show ¬(n + 1) % 16 = 0; omega) j).1.trans
      (congrArg _ (gAt_sum V c D hh hs hq hg hb hW _ j))) n hn

/-- After point `n` the second sum is the one over the blocks so far. -/
theorem sq2_upto (j : Fin 256) (n : ℕ) (hn : n < cfg2.N) :
    (outsAt2 V c n hn).2 (ix2 1 j) = (upto (fun r => D.h2 r j * D.h2 r j) (n + 1) : EReal) :=
  eq_upto_of_steps (fun n hn => (outsAt2 V c n hn).2 (ix2 1 j)) _
    ((sums2_first V c ⟨0, by decide⟩ rfl j).2.trans (gAt_sq V c D hh hs hq hg hb hW _ j))
    (fun n hn => (sums2_later V c ⟨n + 1, hn⟩ (by show ¬(n + 1) % 16 = 0; omega) j).2.trans
      (congrArg _ (gAt_sq V c D hh hs hq hg hb hW _ j))) n hn

/-- The region leaves the second layer in its fifth window's array. -/
theorem h2_array (r : Fin 16384) (j : Fin 256) :
    ((dat2 V c).arrAt 5 cfg2.N : Vec Ideal S16384x256 .bf16) (ix2 r j) = (D.h2 r j : EReal) := by
  have e : (dat2 V c).arrAt 5 cfg2.N = (fun x => (D.h2 (x 0) (x 1) : EReal) : Vec Ideal S16384x256 .bf16) := by
    refine (dat2 V c).arrAt_eq_of_covers 5 _ (by decide +kernel) fun t hf y => ?_
    have h := row_val t.isLt (y 0)
    blk_simp [e2_5 t]
    rw [after2_5]
    have hx : y = ix2 (y 0) (y 1) := eq_ix2 y
    have h1 : (outsAt2 V c t.val t.isLt).1 (ix2 (y 0) (y 1)) = (D.h2 (row t.val (y 0)) (y 1) : EReal) :=
      (rows2_at V c t (y 0) (y 1)).trans (gAt_apply V c D hh hs hq hg hb hW t (y 0) (y 1))
    refine (congrArg (outsAt2 V c t.val t.isLt).1 hx).trans (h1.trans ?_)
    refine congrArg Real.toEReal (congrArg₂ D.h2 ?_ ?_)
    · refine Fin.ext ?_
      blk_simp [e2_5 t, h]
      omega
    · refine Fin.ext ?_
      blk_simp [e2_5 t]
  exact congrFun e (ix2 r j)

/-- The region leaves the column sums and the column sums of squares in its sixth window's array. -/
theorem st2_array (j : Fin 256) :
    ((dat2 V c).arrAt 6 cfg2.N : Vec Ideal S8x256 .f32) (ix2 0 j) = ((∑ r, D.h2 r j : ℝ) : EReal)
      ∧ ((dat2 V c).arrAt 6 cfg2.N : Vec Ideal S8x256 .f32) (ix2 1 j) = ((∑ r, D.h2 r j * D.h2 r j : ℝ) : EReal) := by
  have e : (dat2 V c).arrAt 6 cfg2.N = (outsAt2 V c 15 (by decide)).2 := by
    refine (dat2 V c).arrAt_eq_of_after_last 6 t2_15 (by decide +kernel) _ fun j => ?_
    blk_simp
    rw [after2_6]
    rfl
  rw [e, ← upto_all, ← upto_all]
  exact ⟨sum2_upto V c D hh hs hq hg hb hW j 15 (by decide), sq2_upto V c D hh hs hq hg hb hW j 15 (by decide)⟩

end arrays

end Cert.KernelIdeal.Body
-- ==== Proof.Value3.lean ====
/-
  The first and the last region's arrays: the coarse features through the upper rows of the first weights, and the
  result, block by block.
-/
module

public import proofs.«01_k».proof.Proof.Region0
public import proofs.«01_k».proof.Proof.Region3
public import proofs.«01_k».proof.Proof.Body
public import proofs.«01_k».proof.Proof.Rows
public import Idealize.ShloMosaic.Lib.Pipeline.ValueKit

@[expose] public section

set_option maxRecDepth 16384

noncomputable section

namespace Cert.KernelIdeal.Body

open Cert.KernelIdeal Cert.KernelIdeal.Gen Cert.Knn Idealize.ShloMosaic Idealize.ShloMosaic.TcCoe Idealize.SL.Sem
open Cert.KernelIdeal.Run

variable (V : (c : Dev nD) → (b : Ref sig .tc) → Buf (Elt Ideal) ((c : Thread nD τ).loc b)) (c : Dev nD)

/-! ## The first region -/

/-- Which block of window 0 is taken at a point. -/
theorem e0_0 : ∀ t : Fin cfg0.N, win0_0.index t = ![0, 0] := by decide +kernel
/-- Which block of window 1 is taken at a point. -/
theorem e0_1 : ∀ t : Fin cfg0.N, win0_1.index t = ![0, 0] := by decide +kernel
/-- Which block of window 2 is taken at a point. -/
theorem e0_2 : ∀ t : Fin cfg0.N, win0_2.index t = ![0, 0] := by decide +kernel

section first

variable (D : Data)
  (hx : ∀ j e, (V c main_arg0 : Vec Ideal S4096x256 .f32) (ix2 j e) = (D.xc j e : EReal))
  (hW : ∀ e k, (V c main_arg6 : Vec Ideal S384x256 .f32) (ix2 e k) = (D.W1 e k : EReal))

include hx hW

/-- The one point stores the product of the coarse features and the upper weights. -/
theorem y_at (t : Fin cfg0.N) (i : Fin 4096) (j : Fin 256) :
    k0_pay1 (iblk0 V c 0 t) (X0_1 V c t) (ix2 i j) = (D.y i j : EReal) := by
  have ha : ∀ e, iblk0 V c 0 t (ix2 i e) = (D.xc i e : EReal) := fun e => by
    rw [← hx]; blk_ext [iblk0, e0_0 t]
  have hw : ∀ e, X0_1 V c t (ix2 e j) = (D.W1 (Data.up e) j : EReal) := fun e => by
    rw [← hW]
    unfold X0_1 Pipeline.Window.fill
    rw [dif_pos (moved0_1 t _)]
    blk_ext [iblk0, e0_1 t, Data.up]
  rw [product_apply]
  simp only [ha, hw, ← EReal.coe_mul]
  exact sum_coe _

/-- The region leaves the product of the coarse features and the upper weights. -/
theorem y_array (r : Fin 4096) (j : Fin 256) :
    ((dat0 V c).arrAt 2 cfg0.N : Vec Ideal S4096x256 .f32) (ix2 r j) = (D.y r j : EReal) := by
  have e : (dat0 V c).arrAt 2 cfg0.N = (fun x => (D.y (x 0) (x 1) : EReal) : Vec Ideal S4096x256 .f32) := by
    refine (dat0 V c).arrAt_eq_of_covers 2 _ (by decide +kernel) fun t hf y => ?_
    blk_simp [e0_2 t]
    rw [after0_2]
    frame_out
    have hx' : y = ix2 (y 0) (y 1) := eq_ix2 y
    have h1 : ((win0_2.blk t).view.emb y 1 : Fin 256) = y 1 := by
      refine Fin.ext ?_
      blk_simp [e0_2 t]
    have h0 : ((win0_2.blk t).view.emb y 0 : Fin 4096) = y 0 := by
      refine Fin.ext ?_
      blk_simp [e0_2 t]
    refine (congrArg _ hx').trans ((y_at V c D hx hW t (y 0) (y 1)).trans ?_)
    rw [← h0, ← h1]
  exact congrFun e (ix2 r j)

end first

/-! ## The last region -/

/-- Which block of window 0 is taken at a point. -/
theorem e3_0 : ∀ t : Fin cfg3.N, win3_0.index t = ![t.val, 0] := by decide +kernel
/-- Which block of window 1 is taken at a point. -/
theorem e3_1 : ∀ t : Fin cfg3.N, win3_1.index t = ![0, 0] := by decide +kernel
/-- Which block of window 2 is taken at a point. -/
theorem e3_2 : ∀ t : Fin cfg3.N, win3_2.index t = ![0, 0] := by decide +kernel
/-- Which block of window 3 is taken at a point. -/
theorem e3_3 : ∀ t : Fin cfg3.N, win3_3.index t = ![0, 0] := by decide +kernel
/-- Which block of window 4 is taken at a point. -/
theorem e3_4 : ∀ t : Fin cfg3.N, win3_4.index t = ![t.val, 0] := by decide +kernel

section last

variable (D : Data) (g b : Fin 256 → EReal)
  (hh : ∀ r e, (V c main_v7_0 : Vec Ideal S16384x256 .bf16) (ix2 r e) = (D.h2 r e : EReal))
  (hs : ∀ e, (V c main_v7_1 : Vec Ideal S8x256 .f32) (ix2 0 e) = ((∑ r, D.h2 r e : ℝ) : EReal))
  (hq : ∀ e, (V c main_v7_1 : Vec Ideal S8x256 .f32) (ix2 1 e) = ((∑ r, D.h2 r e * D.h2 r e : ℝ) : EReal))
  (hg : ∀ e, (V c main_v3 : Vec Ideal S1x256 .f32) (ix2 0 e) = g e)
  (hb : ∀ e, (V c main_v4 : Vec Ideal S1x256 .f32) (ix2 0 e) = b e)

include hh hs hq hg hb

/-- Point `t` stores the result's rows of block `t`. -/
theorem out_at (t : Fin cfg3.N) (i : Fin 1024) (j : Fin 256) :
    k3_pay1 (View.ld (iblk3 V c 1 t) r3_0) (View.ld (iblk3 V c 1 t) r3_1) (iblk3 V c 0 t) (iblk3 V c 2 t) (iblk3 V c 3 t)
      (ix2 i j) = D.out (g j) (b j) (row t.val i) j := by
  have h := row_val t.isLt i
  have eg : iblk3 V c 2 t (ix2 0 j) = g j := by rw [← hg]; blk_ext [iblk3, e3_2 t]
  have eb : iblk3 V c 3 t (ix2 0 j) = b j := by rw [← hb]; blk_ext [iblk3, e3_3 t]
  refine (last_apply _ _ _ _ _ i j (fun q => D.h2 q j) (row t.val i) ?_ ?_ ?_).trans ?_
  · rw [ld_row0, ← hs]; blk_ext [iblk3, e3_1 t]
  · rw [ld_row1, ← hq]; blk_ext [iblk3, e3_1 t]
  · rw [← hh]; blk_ext [iblk3, e3_0 t, h]
  · rw [eg, eb]
    rfl

/-- The region leaves the result. -/
theorem out_array (r : Fin 16384) (j : Fin 256) :
    ((dat3 V c).arrAt 4 cfg3.N : Vec Ideal S16384x256 .f32) (ix2 r j) = D.out (g j) (b j) r j := by
  have e : (dat3 V c).arrAt 4 cfg3.N
      = (fun x => D.out (g (x 1)) (b (x 1)) (x 0) (x 1) : Vec Ideal S16384x256 .f32) := by
    refine (dat3 V c).arrAt_eq_of_covers 4 _ (by decide +kernel) fun t hf y => ?_
    have h := row_val t.isLt (y 0)
    blk_simp [e3_4 t]
    rw [after3_4]
    frame_out
    have hx : y = ix2 (y 0) (y 1) := eq_ix2 y
    have h1 : ((win3_4.blk t).view.emb y 1 : Fin 256) = y 1 := by
      refine Fin.ext ?_
      blk_simp [e3_4 t]
    have h0 : ((win3_4.blk t).view.emb y 0 : Fin 16384) = row t.val (y 0) := by
      refine Fin.ext ?_
      blk_simp [e3_4 t, h]
      omega
    refine (congrArg _ hx).trans ((out_at V c D g b hh hs hq hg hb t (y 0) (y 1)).trans ?_)
    rw [← h0, ← h1]
  exact congrFun e (ix2 r j)

end last

end Cert.KernelIdeal.Body
-- ==== Proof.KernelValue.lean ====
/-
  The kernel's result: what each region finds where its windows read, from the launch's arguments to the result array.
-/
module

public import proofs.«01_k».proof.Proof.Launches
public import proofs.«01_k».proof.Proof.Value1
public import proofs.«01_k».proof.Proof.Value2
public import proofs.«01_k».proof.Proof.Value3

@[expose] public section

set_option maxRecDepth 16384

noncomputable section

namespace Cert.KernelIdeal.Body

open Cert.KernelIdeal Cert.KernelIdeal.Gen Cert.Knn Idealize.ShloMosaic Idealize.ShloMosaic.TcCoe Idealize.SL.Sem
open Cert.KernelIdeal.Run

variable (m : (ℓ : Loc nD τ sig) → Buf (Elt Ideal) ℓ) (ρ : Dev nD → PrngReg) (c : Dev nD)

/-- The argument arrays hold the real numbers of `D`. -/
structure Inputs (D : Data) : Prop where
  xc : ∀ j e, (m ((c : Thread nD τ).loc main_arg0) : Vec Ideal S4096x256 .f32) (ix2 j e) = (D.xc j e : EReal)
  pc : ∀ j e, (m ((c : Thread nD τ).loc main_arg1) : Vec Ideal S4096x3 .f32) (ix2 j e) = D.pc j e
  xf : ∀ r e, (m ((c : Thread nD τ).loc main_arg3) : Vec Ideal S16384x128 .f32) (ix2 r e) = (D.xf r e : EReal)
  pf : ∀ r e, (m ((c : Thread nD τ).loc main_arg4) : Vec Ideal S16384x3 .f32) (ix2 r e) = D.pf r e
  W1 : ∀ e k, (m ((c : Thread nD τ).loc main_arg6) : Vec Ideal S384x256 .f32) (ix2 e k) = (D.W1 e k : EReal)
  g1 : ∀ e, (m ((c : Thread nD τ).loc main_arg7) : Vec Ideal S256 .f32) (ix1 e) = (D.g1 e : EReal)
  b1 : ∀ e, (m ((c : Thread nD τ).loc main_arg8) : Vec Ideal S256 .f32) (ix1 e) = (D.b1 e : EReal)
  W2 : ∀ e k, (m ((c : Thread nD τ).loc main_arg9) : Vec Ideal S256x256 .f32) (ix2 e k) = (D.W2 e k : EReal)

/-! ## What the host writes before the regions -/

/-- The transposed coarse coordinates, element by element. -/
theorem coarse_apply (e : Fin 3) (j : Fin 4096) : (W1 m ρ c (Proc.devRef .tc main_v0) : Vec Ideal S3x4096 .f32) (ix2 e j)
    = (m ((c : Thread nD τ).loc main_arg1) : Vec Ideal S4096x3 .f32) (ix2 j e) := by
  show (StableHlo.after hostOps0 (W0 m ρ c) (Proc.devRef .tc main_v0) : Vec Ideal S3x4096 .f32) (ix2 e j) = _
  entry_read
  pointwise []

/-- Layer 1's scale as a row, element by element. -/
theorem scale1_apply (e : Fin 256) : (W1 m ρ c (Proc.devRef .tc main_v1) : Vec Ideal S1x256 .f32) (ix2 0 e)
    = (m ((c : Thread nD τ).loc main_arg7) : Vec Ideal S256 .f32) (ix1 e) := by
  show (StableHlo.after hostOps0 (W0 m ρ c) (Proc.devRef .tc main_v1) : Vec Ideal S1x256 .f32) (ix2 0 e) = _
  entry_read
  pointwise []

/-- Layer 1's shift as a row, element by element. -/
theorem shift1_apply (e : Fin 256) : (W1 m ρ c (Proc.devRef .tc main_v2) : Vec Ideal S1x256 .f32) (ix2 0 e)
    = (m ((c : Thread nD τ).loc main_arg8) : Vec Ideal S256 .f32) (ix1 e) := by
  show (StableHlo.after hostOps0 (W0 m ρ c) (Proc.devRef .tc main_v2) : Vec Ideal S1x256 .f32) (ix2 0 e) = _
  entry_read
  pointwise []

/-- Layer 2's scale as a row, element by element. -/
theorem scale2_apply (e : Fin 256) : (W1 m ρ c (Proc.devRef .tc main_v3) : Vec Ideal S1x256 .f32) (ix2 0 e)
    = (m ((c : Thread nD τ).loc main_arg10) : Vec Ideal S256 .f32) (ix1 e) := by
  show (StableHlo.after hostOps0 (W0 m ρ c) (Proc.devRef .tc main_v3) : Vec Ideal S1x256 .f32) (ix2 0 e) = _
  entry_read
  pointwise []

/-- Layer 2's shift as a row, element by element. -/
theorem shift2_apply (e : Fin 256) : (W1 m ρ c (Proc.devRef .tc main_v4) : Vec Ideal S1x256 .f32) (ix2 0 e)
    = (m ((c : Thread nD τ).loc main_arg11) : Vec Ideal S256 .f32) (ix1 e) := by
  show (StableHlo.after hostOps0 (W0 m ρ c) (Proc.devRef .tc main_v4) : Vec Ideal S1x256 .f32) (ix2 0 e) = _
  entry_read
  pointwise []

/-! ## From region to region -/

section chain

variable {m c} {D : Data} (hI : Inputs m c D) (hD : D.Listed)

include hI in
/-- After the first region: the coarse features through the upper weights. -/
theorem y_apply (j : Fin 4096) (k : Fin 256) :
    (W2 m ρ c (Proc.devRef .tc main_v5) : Vec Ideal S4096x256 .f32) (ix2 j k) = (D.y j k : EReal) := by
  refine (congrFun (W2_arr m ρ c 2) (ix2 j k)).trans (y_array (V1 m ρ) c D (fun j e => ?_) (fun e k => ?_) j k)
  · exact (congrFun (W1_args m ρ c main_arg0 (by decide)) _).trans (hI.xc j e)
  · exact (congrFun (W1_args m ρ c main_arg6 (by decide)) _).trans (hI.W1 e k)

include hI hD

/-- The second region finds the real numbers it reads. -/
theorem entry1 {P : Prop} (k : (∀ r e, (V2 m ρ c main_arg4 : Vec Ideal S16384x3 .f32) (ix2 r e) = D.pf r e)
    → (∀ e j, (V2 m ρ c main_v0 : Vec Ideal S3x4096 .f32) (ix2 e j) = D.pc j e)
    → (∀ j k, (V2 m ρ c main_v5 : Vec Ideal S4096x256 .f32) (ix2 j k) = (D.y j k : EReal))
    → (∀ e k, (V2 m ρ c main_arg6 : Vec Ideal S384x256 .f32) (ix2 e k) = (D.W1 e k : EReal))
    → (∀ r e, (V2 m ρ c main_arg3 : Vec Ideal S16384x128 .f32) (ix2 r e) = (D.xf r e : EReal)) → P) : P := by
  refine k (fun r e => ?_) (fun e j => ?_) (fun j k => y_apply ρ hI j k) (fun e k => ?_) (fun r e => ?_)
  · exact (congrFun (W2_args m ρ c main_arg4 (by decide)) _).trans (hI.pf r e)
  · exact (congrFun (W2_of m ρ c main_v0 (by decide)) _).trans ((coarse_apply m ρ c e j).trans (hI.pc j e))
  · exact (congrFun (W2_args m ρ c main_arg6 (by decide)) _).trans (hI.W1 e k)
  · exact (congrFun (W2_args m ρ c main_arg3 (by decide)) _).trans (hI.xf r e)

/-- After the second region: the first layer, -/
theorem h1_apply (r : Fin 16384) (j : Fin 256) :
    (W3 m ρ c (Proc.devRef .tc main_v6_0) : Vec Ideal S16384x256 .bf16) (ix2 r j) = (D.h1 r j : EReal) :=
  (congrFun (W3_arr m ρ c 5) (ix2 r j)).trans (entry1 ρ hI hD fun a b d e f => h1_array (V2 m ρ) c D hD a b d e f r j)

/-- and its column sums. -/
theorem st1_apply (j : Fin 256) :
    (W3 m ρ c (Proc.devRef .tc main_v6_1) : Vec Ideal S8x256 .f32) (ix2 0 j) = ((∑ r, D.h1 r j : ℝ) : EReal)
      ∧ (W3 m ρ c (Proc.devRef .tc main_v6_1) : Vec Ideal S8x256 .f32) (ix2 1 j) = ((∑ r, D.h1 r j * D.h1 r j : ℝ) : EReal) := by
  have h := entry1 ρ hI hD fun a b d e f => st1_array (V2 m ρ) c D hD a b d e f j
  exact ⟨(congrFun (W3_arr m ρ c 6) _).trans h.1, (congrFun (W3_arr m ρ c 6) _).trans h.2⟩

/-- The third region finds the real numbers it reads. -/
theorem entry2 {P : Prop} (k : (∀ r e, (V3 m ρ c main_v6_0 : Vec Ideal S16384x256 .bf16) (ix2 r e) = (D.h1 r e : EReal))
    → (∀ e, (V3 m ρ c main_v6_1 : Vec Ideal S8x256 .f32) (ix2 0 e) = ((∑ r, D.h1 r e : ℝ) : EReal))
    → (∀ e, (V3 m ρ c main_v6_1 : Vec Ideal S8x256 .f32) (ix2 1 e) = ((∑ r, D.h1 r e * D.h1 r e : ℝ) : EReal))
    → (∀ e, (V3 m ρ c main_v1 : Vec Ideal S1x256 .f32) (ix2 0 e) = (D.g1 e : EReal))
    → (∀ e, (V3 m ρ c main_v2 : Vec Ideal S1x256 .f32) (ix2 0 e) = (D.b1 e : EReal))
    → (∀ e k, (V3 m ρ c main_arg9 : Vec Ideal S256x256 .f32) (ix2 e k) = (D.W2 e k : EReal)) → P) : P := by
  refine k (h1_apply ρ hI hD) (fun e => (st1_apply ρ hI hD e).1) (fun e => (st1_apply ρ hI hD e).2)
    (fun e => ?_) (fun e => ?_) (fun e k => ?_)
  · exact (congrFun (W3_of m ρ c main_v1 (by decide)) _).trans ((congrFun (W2_of m ρ c main_v1 (by decide)) _).trans
      ((scale1_apply m ρ c e).trans (hI.g1 e)))
  · exact (congrFun (W3_of m ρ c main_v2 (by decide)) _).trans ((congrFun (W2_of m ρ c main_v2 (by decide)) _).trans
      ((shift1_apply m ρ c e).trans (hI.b1 e)))
  · exact (congrFun (W3_args m ρ c main_arg9 (by decide)) _).trans (hI.W2 e k)

/-- After the third region: the second layer, -/
theorem h2_apply (r : Fin 16384) (j : Fin 256) :
    (W4 m ρ c (Proc.devRef .tc main_v7_0) : Vec Ideal S16384x256 .bf16) (ix2 r j) = (D.h2 r j : EReal) :=
  (congrFun (W4_arr m ρ c 5) (ix2 r j)).trans (entry2 ρ hI hD fun a b d e f g => h2_array (V3 m ρ) c D a b d e f g r j)

/-- and its column sums. -/
theorem st2_apply (j : Fin 256) :
    (W4 m ρ c (Proc.devRef .tc main_v7_1) : Vec Ideal S8x256 .f32) (ix2 0 j) = ((∑ r, D.h2 r j : ℝ) : EReal)
      ∧ (W4 m ρ c (Proc.devRef .tc main_v7_1) : Vec Ideal S8x256 .f32) (ix2 1 j) = ((∑ r, D.h2 r j * D.h2 r j : ℝ) : EReal) := by
  have h := entry2 ρ hI hD fun a b d e f g => st2_array (V3 m ρ) c D a b d e f g j
  exact ⟨(congrFun (W4_arr m ρ c 6) _).trans h.1, (congrFun (W4_arr m ρ c 6) _).trans h.2⟩

/-- The result array at the end. -/
theorem result_apply (r : Fin 16384) (j : Fin 256) :
    (W5 m ρ c (Proc.devRef .tc main_v8) : Vec Ideal S16384x256 .f32) (ix2 r j)
      = D.out ((m ((c : Thread nD τ).loc main_arg10) : Vec Ideal S256 .f32) (ix1 j))
          ((m ((c : Thread nD τ).loc main_arg11) : Vec Ideal S256 .f32) (ix1 j)) r j := by
  refine (congrFun (W5_arr m ρ c 4) (ix2 r j)).trans (out_array (V4 m ρ) c D
    (fun j => (m ((c : Thread nD τ).loc main_arg10) : Vec Ideal S256 .f32) (ix1 j))
    (fun j => (m ((c : Thread nD τ).loc main_arg11) : Vec Ideal S256 .f32) (ix1 j))
    (h2_apply ρ hI hD) (fun e => (st2_apply ρ hI hD e).1) (fun e => (st2_apply ρ hI hD e).2) (fun e => ?_) (fun e => ?_) r j)
  · exact (congrFun (W4_of m ρ c main_v3 (by decide)) _).trans ((congrFun (W3_of m ρ c main_v3 (by decide)) _).trans
      ((congrFun (W2_of m ρ c main_v3 (by decide)) _).trans (scale2_apply m ρ c e)))
  · exact (congrFun (W4_of m ρ c main_v4 (by decide)) _).trans ((congrFun (W3_of m ρ c main_v4 (by decide)) _).trans
      ((congrFun (W2_of m ρ c main_v4 (by decide)) _).trans (shift2_apply m ρ c e)))

end chain

end Cert.KernelIdeal.Body
-- ==== Proof.Listing.lean ====
/-
  The host operation that lists a row's greatest entries, read at an index: position and value of the `k`-th.
-/
module

public import proofs.«01_k».proof.Proof.Maths
public import Idealize.ShloMosaic.Lib.Pointwise

@[expose] public section

noncomputable section

namespace Cert.Knn

open Idealize.ShloMosaic

/-- The negated squared distance between a fine and a coarse point, of the arrays' elements. -/
def score (pf : FVec Ideal (⟨2, ![16384, 3]⟩ : Shape) .f32) (pc : FVec Ideal (⟨2, ![4096, 3]⟩ : Shape) .f32)
    (r : Fin 16384) (j : Fin 4096) : EReal :=
  -(∑ e : Fin 3, (pf (ix2 r e) - pc (ix2 j e)) * (pf (ix2 r e) - pc (ix2 j e)))

/-- The first three places of a listing. -/
def first3 (k : Fin 3) : Fin 4096 := Fin.castLE (by omega) k
/-- The first four places of a listing. -/
def first4 (k : Fin 4) : Fin 4096 := Fin.castLE (by omega) k

/-- The first three of the first four. -/
theorem first4_castSucc (k : Fin 3) : first4 k.castSucc = first3 k := rfl

section listing

variable {N M K : ℕ} (x : FVec Ideal (⟨2, ![N, M]⟩ : Shape) .f32)
  (h : (⟨2, ![N, M]⟩ : Shape).Slices (fun _ => 0) (⟨2, ![N, K]⟩ : Shape)) (r : Fin N) (k : Fin K) (j : Fin M)

/-- The `r`-th row of an array. -/
def rowOf (r : Fin N) (j : Fin M) : EReal := x (ix2 r j)

/-- Moving along the second axis replaces the second coordinate. -/
theorem along_ix2 (r : Fin N) (j k : Fin M) :
    Shape.Idx.along (s := (⟨2, ![N, M]⟩ : Shape)) (ix2 r j) ⟨1, Nat.one_lt_two⟩ k = ix2 r k := by
  funext a
  match a with
  | ⟨0, _⟩ => rfl
  | ⟨1, _⟩ => rfl

/-- The sort of a row and its positions together, read at an index. -/
theorem sorted_apply (y : IVec (⟨2, ![N, M]⟩ : Shape) 32) :
    (Host.sort2 (⟨2, ![N, M]⟩ : Shape) 1 (fun l q => FloatOps.cmpfTotal (F := Ideal) (φ := .f32) .gt l.1 q.1) x y).1 (ix2 r j)
        = x (ix2 r (order (rowOf x r) j))
      ∧ (Host.sort2 (⟨2, ![N, M]⟩ : Shape) 1 (fun l q => FloatOps.cmpfTotal (F := Ideal) (φ := .f32) .gt l.1 q.1) x y).2 (ix2 r j)
        = y (ix2 r (order (rowOf x r) j)) := by
  unfold Host.sort2
  rw [dif_pos (show 1 < (⟨2, ![N, M]⟩ : Shape).rank from Nat.one_lt_two)]
  dsimp only
  have e : (fun k k' : Fin M => FloatOps.cmpfTotal (F := Ideal) (φ := .f32) .gt
        (x (Shape.Idx.along (s := (⟨2, ![N, M]⟩ : Shape)) (ix2 r j) ⟨1, Nat.one_lt_two⟩ k))
        (x (Shape.Idx.along (s := (⟨2, ![N, M]⟩ : Shape)) (ix2 r j) ⟨1, Nat.one_lt_two⟩ k')) == 1#1)
      = fun k k' => FloatOps.cmpfTotal (F := Ideal) (φ := .f32) .gt (rowOf x r k) (rowOf x r k') == 1#1 :=
    funext₂ fun k k' => congrArg₂ (fun a b => FloatOps.cmpfTotal (F := Ideal) (φ := .f32) .gt (x a) (x b) == 1#1)
      (along_ix2 r j k) (along_ix2 r j k')
  have hp := congrArg (fun b => sortedFrom b j) e
  exact ⟨congrArg x ((along_ix2 r j _).trans (congrArg (ix2 r) hp)), congrArg y ((along_ix2 r j _).trans (congrArg (ix2 r) hp))⟩

include h in
/-- A listed entry's place in the sorted row. -/
theorem head_ix2 (hj : j.val = k.val) {α : Type} (y : (⟨2, ![N, M]⟩ : Shape).Idx → α) :
    extractStridedSlice (⟨2, ![N, K]⟩ : Shape) (fun _ => 0) y h (ix2 r k) = y (ix2 r j) := by
  refine congrArg y (funext fun a => Fin.ext ?_)
  match a with
  | ⟨0, _⟩ => exact Nat.zero_add _
  | ⟨1, _⟩ => exact (Nat.zero_add _).trans hj.symm

/-- The positions a row's sort carries along. -/
def positions (N M : ℕ) : IVec (⟨2, ![N, M]⟩ : Shape) 32 := fun i =>
  if hd : 1 < (⟨2, ![N, M]⟩ : Shape).rank then iotaInDim (⟨2, ![N, M]⟩ : Shape) 32 ⟨1, hd⟩ i else 0#32

/-- The `k`-th listed value. -/
theorem topK_value (hj : j.val = k.val) :
    (Host.topK (⟨2, ![N, K]⟩ : Shape) 1 (FloatOps.cmpfTotal (F := Ideal) (φ := .f32) .gt) x h).1 (ix2 r k)
      = x (ix2 r (order (rowOf x r) j)) :=
  (head_ix2 h r k j hj _).trans (sorted_apply x r j (positions N M)).1

/-- The `k`-th listed position. -/
theorem topK_position (hj : j.val = k.val) :
    (Host.topK (⟨2, ![N, K]⟩ : Shape) 1 (FloatOps.cmpfTotal (F := Ideal) (φ := .f32) .gt) x h).2 (ix2 r k)
      = BitVec.ofNat 32 (order (rowOf x r) j).val :=
  (head_ix2 h r k j hj _).trans ((sorted_apply x r j (positions N M)).2.trans rfl)

end listing

end Cert.Knn
-- ==== Proof.Gather.lean ====
/-
  Taking whole rows of a table at a grid of row numbers, read at an index.
-/
module

public import Idealize.ShloMosaic.Lib.StableHlo.Predicate
public import Idealize.ShloMosaic.Lib.Pointwise

@[expose] public section

noncomputable section

namespace Cert.Knn

open Idealize.ShloMosaic

variable {N K R C : Nat}

/-- The dimension numbers of `x[p]` for a table `x` with `N` rows of `C` entries and row numbers `p` in a grid of `R`
    by `K`: the result's last axis runs along a row, its first two along the grid. -/
abbrev rowsAt (wf : GatherDims.WF ⟨2, ![N, C]⟩ ⟨3, ![R, K, 1]⟩ ⟨3, ![R, K, C]⟩ [2] [0] [] [0] [] 2 ![1, C]) :
    GatherDims ⟨2, ![N, C]⟩ ⟨3, ![R, K, 1]⟩ ⟨3, ![R, K, C]⟩ where
  offsetDims := [2]
  collapsedSliceDims := [0]
  operandBatchingDims := []
  startIndicesBatchingDims := []
  startIndexMap := [0]
  indexVectorDim := 2
  sliceSizes := ![1, C]
  wf := wf

/-- Where the grid holds the row number `n` at `(r, k)`, the result holds there the table's row `n`. -/
theorem rows_taken {α : Type}
    (wf : GatherDims.WF ⟨2, ![N, C]⟩ ⟨3, ![R, K, 1]⟩ ⟨3, ![R, K, C]⟩ [2] [0] [] [0] [] 2 ![1, C])
    (x : (⟨2, ![N, C]⟩ : Shape).Idx → α) (p : IVec ⟨3, ![R, K, 1]⟩ 32) (r : Fin R) (k : Fin K) (e : Fin C) (n : Fin N)
    (hp : p (ix3 r k (0 : Fin 1)) = BitVec.ofNat 32 n.val) (hN : N < 2 ^ 31) :
    Host.gather (rowsAt wf) x p (ix3 r k e) = x (ix2 n e) := by
  have named : (0 : Fin 2) ∈ (rowsAt wf).startIndexMap := List.mem_singleton.2 rfl
  have word : (rowsAt wf).siIdx (ix3 r k e) ⟨(rowsAt wf).startIndexMap.idxOf 0, List.idxOf_lt_length_iff.2 named⟩
      = ix3 r k (0 : Fin 1) := by
    funext b
    fin_cases b <;> rfl
  refine congrArg x (funext fun a => Fin.ext ?_)
  show (rowsAt wf).start (ix3 r k e) p a + (rowsAt wf).batchCoord (ix3 r k e) a + (rowsAt wf).offCoord (ix3 r k e) a = _
  rw [GatherDims.batchCoord_eq_zero _ _ _ List.not_mem_nil]
  fin_cases a
  · have small : ((n.val : Int)).toNat = n.val := Int.toNat_natCast _
    have first : (rowsAt wf).start (ix3 r k e) p 0 = n.val := by
      unfold GatherDims.start
      rw [dif_pos named, word, hp, StableHlo.Predicate.toInt_ofNat_small _ (by omega), small]
      exact min_eq_left (by show n.val ≤ N - 1; omega)
    show (rowsAt wf).start (ix3 r k e) p 0 + 0 + (rowsAt wf).offCoord (ix3 r k e) 0 = n.val
    rw [first, GatherDims.offCoord_eq_zero _ _ _ fun h =>
      ((GatherDims.mem_sKept _ _).1 h).1 (List.mem_singleton.2 rfl)]
    rfl
  · have start : (rowsAt wf).start (ix3 r k e) p 1 = 0 := by
      unfold GatherDims.start
      exact dif_neg fun h => by simp at h
    show (rowsAt wf).start (ix3 r k e) p 1 + 0 + (rowsAt wf).offCoord (ix3 r k e) 1 = e.val
    rw [start]
    have : (rowsAt wf).offCoord (ix3 r k e) 1 = e.val := rfl
    omega

end Cert.Knn
-- ==== Proof.RefFirst.lean ====
/-
  The reference's first half, read at an index: the listed points, their weights and the first linear layer.
-/
module

public import proofs.«01_k».proof.Proof.Gen.ReferenceIdeal.Run
public import proofs.«01_k».proof.Proof.Listing
public import proofs.«01_k».proof.Proof.Gather
public import proofs.«01_k».proof.Proof.Spec
public import Idealize.ShloMosaic.Lib.Tactic.CleanTypes
public import Idealize.ShloMosaic.Lib.ReduceAll
public import Idealize.ShloMosaic.Lib.Affine

@[expose] public section

noncomputable section

namespace Cert.ReferenceIdeal.Body

open Cert.ReferenceIdeal Cert.ReferenceIdeal.Gen Cert.ReferenceIdeal.Value Cert.Knn Idealize.ShloMosaic Idealize.ShloMosaic.TcCoe
  Idealize.SL.Sem Idealize.ShloMosaic.StableHlo

/-- The contents `V` hold the data `D`, whose listed points are the first three of the reference's list. -/
structure Reads (V : Valuation τ sig (Elt Ideal)) (D : Data) : Prop where
  xc : ∀ j e, (V (Proc.devRef .tc main_arg0) : FVec Ideal S4096x256 .f32) (ix2 j e) = (D.xc j e : EReal)
  pc : ∀ j e, (V (Proc.devRef .tc main_arg1) : FVec Ideal S4096x3 .f32) (ix2 j e) = D.pc j e
  xf : ∀ r e, (V (Proc.devRef .tc main_arg3) : FVec Ideal S16384x128 .f32) (ix2 r e) = (D.xf r e : EReal)
  pf : ∀ r e, (V (Proc.devRef .tc main_arg4) : FVec Ideal S16384x3 .f32) (ix2 r e) = D.pf r e
  W1 : ∀ e c, (V (Proc.devRef .tc main_arg6) : FVec Ideal S384x256 .f32) (ix2 e c) = (D.W1 e c : EReal)
  g1 : ∀ c, (V (Proc.devRef .tc main_arg7) : FVec Ideal S256 .f32) (ix1 c) = (D.g1 c : EReal)
  b1 : ∀ c, (V (Proc.devRef .tc main_arg8) : FVec Ideal S256 .f32) (ix1 c) = (D.b1 c : EReal)
  W2 : ∀ e c, (V (Proc.devRef .tc main_arg9) : FVec Ideal S256x256 .f32) (ix2 e c) = (D.W2 e c : EReal)
  p : ∀ r (k : Fin 3), D.p r k = order (fun j => -D.dist r j) (first3 k)

/-- The weighted mean of the rows taken, where the mask holds. -/
def interp (mask : IVec S16384x3 1) (rows : FVec Ideal S16384x3x256 .f32) (w : FVec Ideal S16384x3 .f32) :
    FVec Ideal S16384x256 .f32 :=
  Host.divf (Host.reduceAdd (mulf (select (broadcastInDim S16384x3x256 ![0, 1] bcast_S16384x3_S16384x3x256_0_1 mask) rows
      (broadcastInDim S16384x3x256 ![] bcast_S_S16384x3x256 (constant S_ .f32 0x7FC00000#32)))
      (broadcastInDim S16384x3x256 ![0, 1, 2] bcast_S16384x3x1_S16384x3x256_0_1_2
        (broadcastInDim S16384x3x1 ![0, 1] bcast_S16384x3_S16384x3x1_0_1 w)))
      (constant S_ .f32 0x00000000#32) reducesTo_S16384x3x256_S16384x256_d1 h_S_)
    (broadcastInDim S16384x256 ![0, 1] bcast_S16384x1_S16384x256_0_1 (broadcastInDim S16384x1 ![0] bcast_S16384_S16384x1_0
      (Host.reduceAdd w (constant S_ .f32 0x00000000#32) reducesTo_S16384x3_S16384_d1 h_S_)))

/-- That mean at an index. -/
theorem interp_apply (mask : IVec S16384x3 1) (rows : FVec Ideal S16384x3x256 .f32) (w : FVec Ideal S16384x3 .f32)
    (r : Fin 16384) (e : Fin 256) :
    interp mask rows w (ix2 r e)
      = Ideal.div (∑ k : Fin 3, Scalar.select (mask (ix2 r k)) (rows (ix3 r k e)) (Ideal.ofBits .f32 0x7FC00000#32) * w (ix2 r k))
          (∑ k : Fin 3, w (ix2 r k)) := by
  pointwise [interp]

/-- It over real rows and weights. -/
theorem interp_real (mask : IVec S16384x3 1) (rows : FVec Ideal S16384x3x256 .f32) (w : FVec Ideal S16384x3 .f32)
    (r : Fin 16384) (e : Fin 256) (x v : Fin 3 → ℝ) (hm : ∀ k, mask (ix2 r k) = 1#1)
    (hx : ∀ k, rows (ix3 r k e) = (x k : EReal)) (hw : ∀ k, w (ix2 r k) = (v k : EReal)) (hv : denom v ≠ 0) :
    interp mask rows w (ix2 r e) = (((∑ k, x k * v k) / denom v : ℝ) : EReal) := by
  rw [interp_apply]
  simp only [hm, hx, hw]
  have hs : (∑ k : Fin 3, (v k : EReal)) = ((denom v : ℝ) : EReal) := by
    rw [sum_coe, Fin.sum_univ_three]; rfl
  rw [hs]
  have ht : (∑ k : Fin 3, Scalar.select 1#1 (x k : EReal) (Ideal.ofBits .f32 0x7FC00000#32) * (v k : EReal))
      = ((∑ k, x k * v k : ℝ) : EReal) := by
    rw [← sum_coe]
    exact Finset.sum_congr rfl fun k _ => (EReal.coe_mul _ _).symm
  rw [ht, div_real _ hv]

/-- A row of the two feature blocks side by side. -/
def joined (a : FVec Ideal S16384x256 .f32) (b : FVec Ideal S16384x128 .f32) : FVec Ideal S16384x384 .f32 :=
  concatenate S16384x384 1 [⟨S16384x256, a⟩, ⟨S16384x128, b⟩] concatenates_S16384x256_S16384x128_S16384x384_d1

/-- The left block. -/
theorem joined_up (a : FVec Ideal S16384x256 .f32) (b : FVec Ideal S16384x128 .f32) (r : Fin 16384) (e : Fin 256) :
    joined a b (ix2 r (Data.up e)) = a (ix2 r e) := by
  pointwise [joined, Data.up]

/-- The right block. -/
theorem joined_low (a : FVec Ideal S16384x256 .f32) (b : FVec Ideal S16384x128 .f32) (r : Fin 16384) (e : Fin 128) :
    joined a b (ix2 r (Data.low e)) = b (ix2 r e) := by
  pointwise [joined, Data.low]

/-- A product with the first weights, summed over the two blocks. -/
theorem product_apply (x : FVec Ideal S16384x384 .f32) (w : FVec Ideal S384x256 .f32) (r : Fin 16384) (c : Fin 256) :
    (Host.dotGeneral dot_S16384x384_S384x256_S16384x256_1_0_0_1_n_n none x w : FVec Ideal S16384x256 .f32) (ix2 r c)
      = (∑ e : Fin 256, x (ix2 r (Data.up e)) * w (ix2 (Data.up e) c))
        + ∑ e : Fin 128, x (ix2 r (Data.low e)) * w (ix2 (Data.low e) c) := by
  have e : (Host.dotGeneral dot_S16384x384_S384x256_S16384x256_1_0_0_1_n_n none x w : FVec Ideal S16384x256 .f32) (ix2 r c)
      = ∑ t : Fin (256 + 128), x (ix2 r t) * w (ix2 t c) := by
    pointwise []
  rw [e, Fin.sum_univ_add]
  rfl

variable {V : Valuation τ sig (Elt Ideal)} {D : Data} (h : Reads V D)
include h

/-- The negated squared distances. -/
theorem scores_at (r : Fin 16384) (j : Fin 4096) :
    (res_main_v7 V : FVec Ideal S16384x4096 .f32) (ix2 r j) = -D.dist r j := by
  have e : (res_main_v7 V : FVec Ideal S16384x4096 .f32) (ix2 r j)
      = score (V (Proc.devRef .tc main_arg4)) (V (Proc.devRef .tc main_arg1)) r j := by
    unfold res_main_v7 res_main_v4
    pointwise [score]
  rw [e]
  unfold score Data.dist
  simp only [h.pf, h.pc]

/-- A row of them. -/
theorem scores_row (r : Fin 16384) :
    rowOf (res_main_v7 V : FVec Ideal S16384x4096 .f32) r = fun j => -D.dist r j :=
  funext fun j => scores_at h r j

/-- The listed positions. -/
theorem position_at (r : Fin 16384) (k : Fin 3) :
    (res_main_indices V : IVec S16384x3 32) (ix2 r k) = BitVec.ofNat 32 (D.p r k).val := by
  rw [h.p, ← scores_row h r]
  exact topK_position _ _ r k _ rfl

/-- Counting from the end where negative leaves a position as it is. -/
theorem index_at (r : Fin 16384) (k : Fin 3) :
    (res_main_call0_v5 V : IVec S16384x3x1 32) (ix3 r k (0 : Fin 1)) = BitVec.ofNat 32 (D.p r k).val := by
  have e : (res_main_call0_v5 V : IVec S16384x3x1 32) (ix3 r k (0 : Fin 1))
      = Scalar.select (IntOp.cmpi .slt ((res_main_indices V : IVec S16384x3 32) (ix2 r k)) 0#32)
          (IntOp.addi ((res_main_indices V : IVec S16384x3 32) (ix2 r k)) 4096#32)
          ((res_main_indices V : IVec S16384x3 32) (ix2 r k)) := by
    unfold res_main_call0_v5
    pointwise []
  rw [e, position_at h r k]
  have hp := (D.p r k).isLt
  have e : IntOp.cmpi .slt (BitVec.ofNat 32 (D.p r k).val) 0#32 = 0#1 := by
    have := Predicate.toInt_ofNat_small (D.p r k).val (by omega)
    simp only [IntOp.cmpi, BitVec.slt, this]
    exact congrArg BitVec.ofBool (decide_eq_false (not_lt.2 (Int.natCast_nonneg _)))
  rw [e]
  rfl

/-- The listed positions are all rows of the table. -/
theorem inside_at (r : Fin 16384) (k : Fin 3) :
    Host.reduce IntOp.andi (andi (cmpi .sge (res_main_call0_v5 V : IVec S16384x3x1 32)
          (broadcastInDim S16384x3x1 ![] bcast_S_S16384x3x1 (constantI S_ 32 0#32)))
        (cmpi .sle (res_main_call0_v5 V : IVec S16384x3x1 32) (broadcastInDim S16384x3x1 ![0, 1, 2] bcast_S1x1x1_S16384x3x1_0_1_2
          (broadcastInDim S1x1x1 ![2] bcast_S1_S1x1x1_2 (constantI S1 32 4095#32)))))
      (constantI S_ 1 1#1) reducesTo_S16384x3x1_S16384x3_d2 h_S_ (ix2 r k) = 1#1 := by
  refine Host.reduce_andi_one _ _ _ _ (ix2 r k) rfl fun i => ?_
  obtain ⟨r, k, rfl⟩ : ∃ (r : Fin 16384) (k : Fin 3), i = ix3 r k (0 : Fin 1) :=
    ⟨i 0, i 1, by
      funext a
      fin_cases a
      · rfl
      · rfl
      · exact Fin.ext (Nat.lt_one_iff.1 (i 2).isLt)⟩
  have e := Predicate.toInt_ofNat_small (D.p r k).val (by have := (D.p r k).isLt; omega)
  have hp := (D.p r k).isLt
  refine IntOp.andi_eq_one.2 ⟨?_, ?_⟩
  · show IntOp.cmpi .sge ((res_main_call0_v5 V : IVec S16384x3x1 32) (ix3 r k (0 : Fin 1))) 0#32 = 1#1
    rw [index_at h]
    simp [IntOp.cmpi, BitVec.sle, e]
  · show IntOp.cmpi .sle ((res_main_call0_v5 V : IVec S16384x3x1 32) (ix3 r k (0 : Fin 1))) 4095#32 = 1#1
    rw [index_at h]
    simp only [IntOp.cmpi, BitVec.sle, e]
    exact congrArg BitVec.ofBool (decide_eq_true (show ((D.p r k).val : Int) ≤ 4095 by omega))

/-- The table's row at a listed position. -/
theorem gathered_at (r : Fin 16384) (k : Fin 3) (e : Fin 256) :
    (Host.gather gather_S4096x256_S16384x3x1_S16384x3x256_2_0_n_n_0_2_1256
      (V (Proc.devRef .tc main_arg0) : FVec Ideal S4096x256 .f32) (res_main_call0_v5 V : IVec S16384x3x1 32) :
        FVec Ideal S16384x3x256 .f32) (ix3 r k e) = (D.xc (D.p r k) e : EReal) :=
  (rows_taken _ _ _ r k e (D.p r k) (index_at h r k) (by norm_num)).trans (h.xc _ _)

/-- The weights. -/
theorem weights_at (hD : D.Listed) (r : Fin 16384) (k : Fin 3) :
    (res_main_v12 V : FVec Ideal S16384x3 .f32) (ix2 r k) = (D.wt r k : EReal) := by
  have e : (res_main_v12 V : FVec Ideal S16384x3 .f32) (ix2 r k)
      = Ideal.div 1 (max (-((Host.topK S16384x3 1 (FloatOps.cmpfTotal (F := Ideal) (φ := .f32) .gt) (res_main_v7 V : FVec Ideal S16384x4096 .f32)
          sliceFits_S16384x4096_S16384x3).1 (ix2 r k))) (Ideal.ofBits .f32 619091349#32)) := by
    unfold res_main_v12
    pointwise []
  have t := topK_value (res_main_v7 V : FVec Ideal S16384x4096 .f32) sliceFits_S16384x4096_S16384x3 r k
    (first3 k) rfl
  rw [scores_row h r, ← h.p, scores_at h] at t
  rw [e, bits_epsD]
  refine (congrArg (fun t => Ideal.div 1 (max (-t) (epsD : EReal))) t).trans ?_
  rw [neg_neg]
  exact (hD r).weight_eq k

/-- The first linear layer. -/
theorem first_at (hD : D.Listed) (r : Fin 16384) (c : Fin 256) :
    (res_main_v23 V : FVec Ideal S16384x256 .f32) (ix2 r c) = (D.h1 r c : EReal) := by
  refine (product_apply (joined (interp _ _ (res_main_v12 V)) (V (Proc.devRef .tc main_arg3))) (V (Proc.devRef .tc main_arg6))
    r c).trans ?_
  simp only [joined_up, joined_low, h.xf, h.W1]
  rw [Finset.sum_congr rfl fun e _ => congrArg (· * (D.W1 (Data.up e) c : EReal))
    (interp_real _ _ _ r e _ _ (inside_at h r) (fun k => gathered_at h r k e) (weights_at h hD r) (D.denom_pos r).ne')]
  simp only [← EReal.coe_mul, sum_coe, ← EReal.coe_add]
  rw [interp_linear D.xc (D.p r) (D.wt r) (denom (D.wt r)) fun e => D.W1 (Data.up e) c]
  rfl

end Cert.ReferenceIdeal.Body
-- ==== Proof.RefValue.lean ====
/-
  The reference's two normalised layers, read at an index, and its result.
-/
module

public import proofs.«01_k».proof.Proof.RefFirst

@[expose] public section

noncomputable section

namespace Cert.ReferenceIdeal.Body

open Cert.ReferenceIdeal Cert.ReferenceIdeal.Gen Cert.ReferenceIdeal.Value Cert.Knn Idealize.ShloMosaic Idealize.ShloMosaic.TcCoe
  Idealize.SL.Sem Idealize.ShloMosaic.StableHlo

/-- The columns' means. -/
def means (x : FVec Ideal S16384x256 .f32) : FVec Ideal S256 .f32 :=
  Host.divf (Host.reduceAdd x (constant S_ .f32 0x00000000#32) reducesTo_S16384x256_S256_d0 h_S_)
    (broadcastInDim S256 ![] bcast_S_S256 (constant S_ .f32 0x46800000#32))

/-- A vector along every row. -/
def everyRow (v : FVec Ideal S256 .f32) : FVec Ideal S16384x256 .f32 :=
  broadcastInDim S16384x256 ![0, 1] bcast_S1x256_S16384x256_0_1 (broadcastInDim S1x256 ![1] bcast_S256_S1x256_1 v)

/-- A layer's columns normalised, scaled, shifted and rectified. -/
def activated (x : FVec Ideal S16384x256 .f32) (g b : FVec Ideal S256 .f32) : FVec Ideal S16384x256 .f32 :=
  maximumf (addf (mulf (Host.divf (subf x (everyRow (means x))) (everyRow (Host.sqrt (addf (Host.divf (Host.reduceAdd
      (mulf (subf x (everyRow (means x))) (subf x (everyRow (means x)))) (constant S_ .f32 0x00000000#32)
      reducesTo_S16384x256_S256_d0 h_S_) (broadcastInDim S256 ![] bcast_S_S256 (constant S_ .f32 0x46800000#32)))
      (broadcastInDim S256 ![] bcast_S_S256 (constant S_ .f32 0x3727C5AC#32)))))) (everyRow g)) (everyRow b))
    (broadcastInDim S16384x256 ![] bcast_S_S16384x256 (constant S_ .f32 0x00000000#32))

/-- A vector along every row, at an index. -/
theorem everyRow_apply (v : FVec Ideal S256 .f32) (r : Fin 16384) (c : Fin 256) : everyRow v (ix2 r c) = v (ix1 c) := by
  pointwise [everyRow]

/-- A column's mean. -/
theorem means_apply (x : FVec Ideal S16384x256 .f32) (c : Fin 256) (f : Fin 16384 → ℝ)
    (hx : ∀ r, x (ix2 r c) = (f r : EReal)) : means x (ix1 c) = (mean f : EReal) := by
  have e : means x (ix1 c) = Ideal.div (∑ r : Fin 16384, x (ix2 r c)) (Ideal.ofBits .f32 1182793728#32) := by
    pointwise [means]
  rw [e, bits_num]
  simp only [hx]
  exact mean_div f

/-- A normalised layer at an index. -/
theorem activated_apply (x : FVec Ideal S16384x256 .f32) (g b : FVec Ideal S256 .f32) (r : Fin 16384) (c : Fin 256)
    (f : Fin 16384 → ℝ) (hx : ∀ r, x (ix2 r c) = (f r : EReal)) :
    activated x g b (ix2 r c) = max ((normed epsB f r : EReal) * g (ix1 c) + b (ix1 c)) 0 := by
  have hm := means_apply x c f hx
  unfold activated
  generalize means x = μ at hm ⊢
  have e : ∀ y : FVec Ideal S16384x256 .f32, maximumf (addf (mulf (Host.divf y (everyRow (Host.sqrt (addf (Host.divf (Host.reduceAdd
      (mulf y y) (constant S_ .f32 0x00000000#32)
      reducesTo_S16384x256_S256_d0 h_S_) (broadcastInDim S256 ![] bcast_S_S256 (constant S_ .f32 0x46800000#32)))
      (broadcastInDim S256 ![] bcast_S_S256 (constant S_ .f32 0x3727C5AC#32)))))) (everyRow g)) (everyRow b))
    (broadcastInDim S16384x256 ![] bcast_S_S16384x256 (constant S_ .f32 0x00000000#32)) (ix2 r c)
      = max (Ideal.div (y (ix2 r c)) (Ideal.sqrt (Ideal.div (∑ q : Fin 16384, y (ix2 q c) * y (ix2 q c))
          (Ideal.ofBits .f32 1182793728#32) + Ideal.ofBits .f32 925353388#32)) * g (ix1 c) + b (ix1 c)) 0 := by
    intro y
    pointwise [everyRow]
  have hd : ∀ q, subf x (everyRow μ) (ix2 q c) = (f q : EReal) - (mean f : EReal) := fun q => by
    have : subf x (everyRow μ) (ix2 q c) = x (ix2 q c) - everyRow μ (ix2 q c) := rfl
    rw [this, everyRow_apply, hx, hm]
  rw [e, bits_num, bits_epsB]
  simp only [hd]
  rw [norm_of_centred epsB_pos]

/-- A product with the second weights. -/
theorem second_product (x : FVec Ideal S16384x256 .f32) (w : FVec Ideal S256x256 .f32) (r : Fin 16384) (c : Fin 256) :
    (Host.dotGeneral dot_S16384x256_S256x256_S16384x256_1_0_0_1_n_n none x w : FVec Ideal S16384x256 .f32) (ix2 r c)
      = ∑ e : Fin 256, x (ix2 r e) * w (ix2 e c) := by
  pointwise []

variable {V : Valuation τ sig (Elt Ideal)} {D : Data} (h : Reads V D)
include h

/-- The second linear layer. -/
theorem second_at (hD : D.Listed) (r : Fin 16384) (c : Fin 256) :
    (res_main_v50 V : FVec Ideal S16384x256 .f32) (ix2 r c) = (D.h2 r c : EReal) := by
  refine (second_product (activated (res_main_v23 V) (V (Proc.devRef .tc main_arg7)) (V (Proc.devRef .tc main_arg8)))
    (V (Proc.devRef .tc main_arg9)) r c).trans ?_
  unfold Data.h2
  rw [← sum_coe]
  refine Finset.sum_congr rfl fun e _ => ?_
  rw [activated_apply _ _ _ r e (fun q => D.h1 q e) fun q => first_at h hD q e, h.g1, h.b1, h.W2, ← EReal.coe_mul, ← EReal.coe_add,
    show (0 : EReal) = ((0 : ℝ) : EReal) from rfl, max_real, ← EReal.coe_mul]
  rfl

/-- The result. -/
theorem result_at (hD : D.Listed) (r : Fin 16384) (c : Fin 256) :
    activated (res_main_v50 V) (V (Proc.devRef .tc main_arg10)) (V (Proc.devRef .tc main_arg11)) (ix2 r c)
      = D.out ((V (Proc.devRef .tc main_arg10) : FVec Ideal S256 .f32) (ix1 c))
          ((V (Proc.devRef .tc main_arg11) : FVec Ideal S256 .f32) (ix1 c)) r c :=
  activated_apply _ _ _ r c (fun q => D.h2 q c) fun q => second_at h hD q c

end Cert.ReferenceIdeal.Body
-- ==== Proof.WellPosed.lean ====
/-
  What the precondition says: the arrays it names hold real numbers, and in every row the four greatest negated
  squared distances are strictly decreasing.
-/
module

public import proofs.«01_k».proof.Pre_well_posed
public import proofs.«01_k».proof.Proof.Listing
public import Idealize.ShloMosaic.Lib.ReduceAll

@[expose] public section

set_option maxRecDepth 16384

noncomputable section

namespace Cert.Pre_well_posed

open Cert.Knn Idealize.ShloMosaic

/-- An array whose elements all compare strictly between the two infinities holds real numbers. -/
theorem real_of_between {s : Shape} {axes : List (Fin s.rank)} (x : FVec Ideal s .f32) (b : S_.BroadcastsInDim s (![] : Fin 0 → Fin s.rank))
    (hr : s.ReducesTo axes S_) (hu : 0 < S_.numel) (j : S_.Idx)
    (e : Host.reduce IntOp.andi (andi (cmpf .ogt x (broadcastInDim s ![] b (constant S_ .f32 0xFF800000#32)))
      (cmpf .olt x (broadcastInDim s ![] b (constant S_ .f32 0x7F800000#32)))) (constantI S_ 1 1#1) hr hu j = 1#1) (i : s.Idx) :
    x i = ((EReal.toReal (x i) : ℝ) : EReal) := by
  have h := IntOp.andi_eq_one.1 (Host.reduce_andi_all _ _ _ _ j e i)
  have h1 : BitVec.ofBool (decide (Ideal.ofBits .f32 4286578688#32 < x i)) = 1#1 := h.1
  have h2 : BitVec.ofBool (decide (x i < Ideal.ofBits .f32 2139095040#32)) = 1#1 := h.2
  rw [bits_bot] at h1
  rw [bits_top] at h2
  have k1 : (⊥ : EReal) < x i := by
    by_contra hc
    rw [decide_eq_false hc] at h1
    exact absurd h1 (by decide)
  have k2 : x i < (⊤ : EReal) := by
    by_contra hc
    rw [decide_eq_false hc] at h2
    exact absurd h2 (by decide)
  exact (EReal.coe_toReal k2.ne k1.ne').symm

variable [Facts] (a0 : FVec Ideal S4096x256 .f32) (a1 : FVec Ideal S4096x3 .f32) (a2 : IVec S4096 32)
  (a3 : FVec Ideal S16384x128 .f32) (a4 : FVec Ideal S16384x3 .f32) (a5 : IVec S16384 32) (a6 : FVec Ideal S384x256 .f32)
  (a7 a8 : FVec Ideal S256 .f32) (a9 : FVec Ideal S256x256 .f32) (a10 a11 : FVec Ideal S256 .f32)

/-- What the precondition gives. -/
structure Meaning : Prop where
  real0 : ∀ i, a0 i = ((EReal.toReal (a0 i) : ℝ) : EReal)
  real3 : ∀ i, a3 i = ((EReal.toReal (a3 i) : ℝ) : EReal)
  real6 : ∀ i, a6 i = ((EReal.toReal (a6 i) : ℝ) : EReal)
  real7 : ∀ i, a7 i = ((EReal.toReal (a7 i) : ℝ) : EReal)
  real8 : ∀ i, a8 i = ((EReal.toReal (a8 i) : ℝ) : EReal)
  real9 : ∀ i, a9 i = ((EReal.toReal (a9 i) : ℝ) : EReal)
  decreasing : ∀ (r : Fin 16384) (k : Fin 4 → Fin 4096) (_ : ∀ i, (k i).val = i.val) (i : Fin 3),
    score a4 a1 r (order (score a4 a1 r) (k i.succ)) < score a4 a1 r (order (score a4 a1 r) (k i.castSucc))

/-- The negated squared distances, as the precondition computes them. -/
def scores : FVec Ideal S16384x4096 .f32 :=
  let d : FVec Ideal S16384x4096x3 .f32 := subf
    (broadcastInDim S16384x4096x3 ![0, 1, 2] Facts.bcast_S16384x1x3_S16384x4096x3_0_1_2
      (broadcastInDim S16384x1x3 ![0, 2] Facts.bcast_S16384x3_S16384x1x3_0_2 a4))
    (broadcastInDim S16384x4096x3 ![0, 1, 2] Facts.bcast_S1x4096x3_S16384x4096x3_0_1_2
      (broadcastInDim S1x4096x3 ![1, 2] Facts.bcast_S4096x3_S1x4096x3_1_2 a1))
  Host.negf (Host.reduceAdd (mulf d d) (constant S_ .f32 0x00000000#32) Facts.reducesTo_S16384x4096x3_S16384x4096_d2 Facts.h_S_)

/-- The scores, element by element. -/
theorem scores_apply (r : Fin 16384) (j : Fin 4096) : scores a1 a4 (ix2 r j) = score a4 a1 r j := by
  pointwise [scores, score]

/-- The precondition's last conjunct, read in a row. -/
theorem decreasing_of (x : FVec Ideal S16384x4096 .f32) (z : S_.Idx)
    (e : Host.reduce IntOp.andi (cmpf .olt
        (extractStridedSlice S16384x3 ![0, 1] (Host.topK S16384x4 1 (FloatOps.cmpfTotal (F := Ideal) (φ := .f32) .gt) x Facts.sliceFits_S16384x4096_S16384x4).1 Facts.slices_S16384x4_S16384x3_0_1)
        (extractStridedSlice S16384x3 ![0, 0] (Host.topK S16384x4 1 (FloatOps.cmpfTotal (F := Ideal) (φ := .f32) .gt) x Facts.sliceFits_S16384x4096_S16384x4).1 Facts.slices_S16384x4_S16384x3_0_0))
      (constantI S_ 1 1#1) Facts.reducesTo_S16384x3_S_d0_1 Facts.h_S_ z = 1#1)
    (r : Fin 16384) (k : Fin 4 → Fin 4096) (hk : ∀ i, (k i).val = i.val) (i : Fin 3) :
    rowOf x r (order (rowOf x r) (k i.succ)) < rowOf x r (order (rowOf x r) (k i.castSucc)) := by
  have h := Host.reduce_andi_all _ _ _ _ z e (ix2 r i)
  have ha : extractStridedSlice S16384x3 ![0, 1] (Host.topK S16384x4 1 (FloatOps.cmpfTotal (F := Ideal) (φ := .f32) .gt) x Facts.sliceFits_S16384x4096_S16384x4).1 Facts.slices_S16384x4_S16384x3_0_1 (ix2 r i)
      = rowOf x r (order (rowOf x r) (k i.succ)) :=
    (congrArg (Host.topK S16384x4 1 (FloatOps.cmpfTotal (F := Ideal) (φ := .f32) .gt) x Facts.sliceFits_S16384x4096_S16384x4).1
      (show _ = ix2 r i.succ from by
        funext a; apply Fin.ext
        match a with
        | ⟨0, _⟩ => exact Nat.zero_add _
        | ⟨1, _⟩ => exact Nat.add_comm _ _)).trans (topK_value x _ r i.succ (k i.succ) (hk _))
  have hb : extractStridedSlice S16384x3 ![0, 0] (Host.topK S16384x4 1 (FloatOps.cmpfTotal (F := Ideal) (φ := .f32) .gt) x Facts.sliceFits_S16384x4096_S16384x4).1 Facts.slices_S16384x4_S16384x3_0_0 (ix2 r i)
      = rowOf x r (order (rowOf x r) (k i.castSucc)) :=
    (congrArg (Host.topK S16384x4 1 (FloatOps.cmpfTotal (F := Ideal) (φ := .f32) .gt) x Facts.sliceFits_S16384x4096_S16384x4).1
      (show _ = ix2 r i.castSucc from by
        funext a; apply Fin.ext
        match a with
        | ⟨0, _⟩ => exact Nat.zero_add _
        | ⟨1, _⟩ => exact Nat.zero_add _)).trans (topK_value x _ r i.castSucc (k i.castSucc) (hk _))
  have h' : BitVec.ofBool (decide (rowOf x r (order (rowOf x r) (k i.succ)) < rowOf x r (order (rowOf x r) (k i.castSucc)))) = 1#1 := by
    rw [← ha, ← hb]; exact h
  by_contra hc
  rw [decide_eq_false hc] at h'
  exact absurd h' (by decide)

/-- The precondition means what its structure says. -/
theorem meaning (h : fn a0 a1 a2 a3 a4 a5 a6 a7 a8 a9 a10 a11 = fun _ => 1#1) : Meaning a0 a1 a3 a4 a6 a7 a8 a9 := by
  have z : S_.Idx := fun a => a.elim0
  have q6 := IntOp.andi_eq_one.1 (congrFun h z)
  have q5 := IntOp.andi_eq_one.1 q6.1
  have q4 := IntOp.andi_eq_one.1 q5.1
  have q3 := IntOp.andi_eq_one.1 q4.1
  have q2 := IntOp.andi_eq_one.1 q3.1
  have q1 := IntOp.andi_eq_one.1 q2.1
  refine ⟨real_of_between a0 _ _ _ z q1.1, real_of_between a3 _ _ _ z q1.2, real_of_between a6 _ _ _ z q2.2,
    real_of_between a7 _ _ _ z q3.2, real_of_between a8 _ _ _ z q4.2, real_of_between a9 _ _ _ z q5.2, fun r k hk i => ?_⟩
  have e : rowOf (scores a1 a4) r = score a4 a1 r := funext fun j => scores_apply a1 a4 r j
  have d := decreasing_of (scores a1 a4) z q6.2 r k hk i
  rw [e] at d
  exact d

end Cert.Pre_well_posed
-- ==== Proof.Equal.lean ====
/-
  The kernel and the reference end with the same result.
-/
module

public import proofs.«01_k».proof.Defs
public import proofs.«01_k».proof.Proof.Frames
public import proofs.«01_k».proof.Proof.KernelValue
public import proofs.«01_k».proof.Proof.RefValue
public import proofs.«01_k».proof.Proof.WellPosed
public import proofs.«01_k».proof.Proof.Gen.Pre_well_posed

@[expose] public section

set_option maxRecDepth 16384

noncomputable section

namespace Cert.Proof

open Cert.Knn Cert.KernelIdeal Cert.KernelIdeal.Gen Idealize.ShloMosaic Idealize.ShloMosaic.TcCoe Idealize.SL.Sem

variable (a0 : FVec Ideal S4096x256 .f32) (a1 : FVec Ideal S4096x3 .f32)
  (a3 : FVec Ideal S16384x128 .f32) (a4 : FVec Ideal S16384x3 .f32) (a6 : FVec Ideal S384x256 .f32)
  (a7 a8 : FVec Ideal S256 .f32) (a9 : FVec Ideal S256x256 .f32)

/-- The numbers the argument arrays hold, and the first three points listed for every fine point. -/
def dataOf : Data where
  xc j e := EReal.toReal (a0 (ix2 j e))
  pc j e := a1 (ix2 j e)
  xf r e := EReal.toReal (a3 (ix2 r e))
  pf r e := a4 (ix2 r e)
  W1 e c := EReal.toReal (a6 (ix2 e c))
  g1 c := EReal.toReal (a7 (ix1 c))
  b1 c := EReal.toReal (a8 (ix1 c))
  W2 e c := EReal.toReal (a9 (ix2 e c))
  p r k := order (score a4 a1 r) (first3 k)

/-- The listed points. -/
theorem dataOf_p (r : Fin 16384) (k : Fin 3) :
    (dataOf a0 a1 a3 a4 a6 a7 a8 a9).p r k = order (score a4 a1 r) (first3 k) := by
  simp only [dataOf]

/-- A score is a negated distance. -/
theorem score_dist (r : Fin 16384) (j : Fin 4096) :
    score a4 a1 r j = -(dataOf a0 a1 a3 a4 a6 a7 a8 a9).dist r j := rfl

section Listed

variable {a0 a1 a3 a4 a6 a7 a8 a9} (h : Cert.Pre_well_posed.Meaning a0 a1 a3 a4 a6 a7 a8 a9)
include h

/-- The listed points are the three nearest. -/
theorem listed : (dataOf a0 a1 a3 a4 a6 a7 a8 a9).Listed := by
  intro r
  have e : (dataOf a0 a1 a3 a4 a6 a7 a8 a9).p r = fun i => order (score a4 a1 r) (first4 i.castSucc) := by
    funext k
    rw [dataOf_p, first4_castSucc]
  rw [e]
  exact nearest_of_order _ (fun j => Data.dist_nonneg _ r j) (score a4 a1 r) (score_dist a0 a1 a3 a4 a6 a7 a8 a9 r) first4 (fun _ => rfl) (h.decreasing r first4 fun _ => rfl)

/-- The reference's arguments hold that data where they equal the kernel's. -/
theorem reads_of (V : Valuation Cert.ReferenceIdeal.τ Cert.ReferenceIdeal.sig (Elt Ideal))
    (e0 : (V (Proc.devRef .tc Cert.ReferenceIdeal.main_arg0) : FVec Ideal S4096x256 .f32) = a0)
    (e1 : (V (Proc.devRef .tc Cert.ReferenceIdeal.main_arg1) : FVec Ideal S4096x3 .f32) = a1)
    (e3 : (V (Proc.devRef .tc Cert.ReferenceIdeal.main_arg3) : FVec Ideal S16384x128 .f32) = a3)
    (e4 : (V (Proc.devRef .tc Cert.ReferenceIdeal.main_arg4) : FVec Ideal S16384x3 .f32) = a4)
    (e6 : (V (Proc.devRef .tc Cert.ReferenceIdeal.main_arg6) : FVec Ideal S384x256 .f32) = a6)
    (e7 : (V (Proc.devRef .tc Cert.ReferenceIdeal.main_arg7) : FVec Ideal S256 .f32) = a7)
    (e8 : (V (Proc.devRef .tc Cert.ReferenceIdeal.main_arg8) : FVec Ideal S256 .f32) = a8)
    (e9 : (V (Proc.devRef .tc Cert.ReferenceIdeal.main_arg9) : FVec Ideal S256x256 .f32) = a9) :
    Cert.ReferenceIdeal.Body.Reads V (dataOf a0 a1 a3 a4 a6 a7 a8 a9) where
  xc _ _ := (congrFun e0 _).trans (h.real0 _)
  pc _ _ := (congrFun e1 _)
  xf _ _ := (congrFun e3 _).trans (h.real3 _)
  pf _ _ := (congrFun e4 _)
  W1 _ _ := (congrFun e6 _).trans (h.real6 _)
  g1 _ := (congrFun e7 _).trans (h.real7 _)
  b1 _ := (congrFun e8 _).trans (h.real8 _)
  W2 _ _ := (congrFun e9 _).trans (h.real9 _)
  p r k := by rw [dataOf_p, show score a4 a1 r = _ from funext (score_dist a0 a1 a3 a4 a6 a7 a8 a9 r)]

end Listed

section Launch

variable (m : (ℓ : Loc nD τ sig) → Buf (Elt Ideal) ℓ) (g : Dev nD → PrngReg) (c : Dev nD)

/-- The data of a launch's arguments. -/
def dataAt : Data := dataOf (m ((c : Thread nD τ).loc main_arg0)) (m ((c : Thread nD τ).loc main_arg1))
  (m ((c : Thread nD τ).loc main_arg3)) (m ((c : Thread nD τ).loc main_arg4)) (m ((c : Thread nD τ).loc main_arg6))
  (m ((c : Thread nD τ).loc main_arg7)) (m ((c : Thread nD τ).loc main_arg8)) (m ((c : Thread nD τ).loc main_arg9))

/-- What the precondition gives of a launch's arguments. -/
abbrev MeaningAt : Prop := Cert.Pre_well_posed.Meaning (m ((c : Thread nD τ).loc main_arg0)) (m ((c : Thread nD τ).loc main_arg1))
  (m ((c : Thread nD τ).loc main_arg3)) (m ((c : Thread nD τ).loc main_arg4)) (m ((c : Thread nD τ).loc main_arg6))
  (m ((c : Thread nD τ).loc main_arg7)) (m ((c : Thread nD τ).loc main_arg8)) (m ((c : Thread nD τ).loc main_arg9))

variable {m c}

/-- The kernel's arguments hold the data. -/
theorem inputs_of (h : MeaningAt m c) : Body.Inputs m c (dataAt m c) :=
  ⟨fun _ _ => h.real0 _, fun _ _ => rfl, fun _ _ => h.real3 _, fun _ _ => rfl, fun _ _ => h.real6 _,
    fun _ => h.real7 _, fun _ => h.real8 _, fun _ _ => h.real9 _⟩

/-- The two programs' results are one array. -/
theorem results_equal (h : MeaningAt m c) (V : Valuation Cert.ReferenceIdeal.τ Cert.ReferenceIdeal.sig (Elt Ideal))
    (hV : Cert.ReferenceIdeal.Body.Reads V (dataAt m c))
    (e10 : (V (Proc.devRef .tc Cert.ReferenceIdeal.main_arg10) : FVec Ideal S256 .f32) = m ((c : Thread nD τ).loc main_arg10))
    (e11 : (V (Proc.devRef .tc Cert.ReferenceIdeal.main_arg11) : FVec Ideal S256 .f32) = m ((c : Thread nD τ).loc main_arg11)) :
    Cert.ReferenceIdeal.Body.activated (Cert.ReferenceIdeal.Value.res_main_v50 V)
        (V (Proc.devRef .tc Cert.ReferenceIdeal.main_arg10)) (V (Proc.devRef .tc Cert.ReferenceIdeal.main_arg11))
      = (Run.W5 m g c (Proc.devRef .tc main_v8) : Vec Ideal S16384x256 .f32) := by
  funext x
  obtain ⟨q, j, rfl⟩ : ∃ (q : Fin 16384) (j : Fin 256), x = ix2 q j := ⟨x 0, x 1, by
    funext a
    fin_cases a <;> rfl⟩
  refine (Cert.ReferenceIdeal.Body.result_at hV (listed h) q j).trans ?_
  rw [e10, e11]
  exact (Body.result_apply g (inputs_of h) (listed h) q j).symm

end Launch

/-- The kernel and the reference, launched on equal arguments that meet the precondition, end with equal results and
    with their arguments as launched. -/
theorem equal : Cert.algebraic_KernelIdeal_ReferenceIdeal_pre_well_posed := by
  intro m g m' g' pre same
  refine ⟨fun c => Run.W5 m g c (Proc.devRef .tc main_v8),
    (θ_run Cert.KernelIdeal.defs _ _).mono (fun _ k => k.1) (kernel_run (F := Ideal) m g), ?_⟩
  refine (θ_run Cert.ReferenceIdeal.defs _ _).mono (fun r k c => ⟨(k c).1.trans ?_, (k c).2⟩)
    (Cert.ReferenceIdeal.Value.run (F := Ideal) m' g')
  have h : MeaningAt m c := Cert.Pre_well_posed.meaning _ _ _ _ _ _ _ _ _ _ _ _ (pre c)
  obtain ⟨e0, e1, -, e3, e4, -, e6, e7, e8, e9, e10, e11⟩ := same c
  exact results_equal g h (StableHlo.launchContents m' c) (reads_of h _ e0 e1 e3 e4 e6 e7 e8 e9) e10 e11

end Cert.Proof
-- ==== Proof.lean ====
/-
  The certificate's claims, put together: the programs' stated facts, the frames, that idealizing preserves the kernel,
  and that the kernel and the reference end with equal results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_posed
public import proofs.«01_k».proof.Proof.Frames
public import proofs.«01_k».proof.Proof.Equal

@[expose] public section

noncomputable section

namespace Cert.Proof

/-- Every claim of the certificate. -/
theorem claim : Cert.Claim := ⟨Cert.Kernel.Gen.facts, Cert.KernelIdeal.Gen.facts, Cert.ReferenceIdeal.Gen.facts,
  Cert.Pre_well_posed.Gen.facts, frame_kernel, frame_kernelIdeal, fun m g _ => frame_kernelIdeal m g trivial,
  frame_reference, fun m g _ => frame_reference m g trivial, trivial, equal⟩

end Cert.Proof

end
